-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048 : Shape := ⟨1, ![2048]⟩
abbrev S2048x2048 : Shape := ⟨2, ![2048, 2048]⟩
abbrev S_ : Shape := ⟨0, ![]⟩
abbrev S1048576 : Shape := ⟨1, ![1048576]⟩
abbrev S512x2048 : Shape := ⟨2, ![512, 2048]⟩
abbrev S1x2048 : Shape := ⟨2, ![1, 2048]⟩
abbrev S1x1 : Shape := ⟨2, ![1, 1]⟩
abbrev S2048x512 : Shape := ⟨2, ![2048, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x1x2048 : Shape := ⟨3, ![1, 1, 2048]⟩

abbrev nBuf : Space → Nat
  | .hbm => 252
  | .vmem => 7
  | .smem => 0
  | _ => 0

abbrev hbmTy0_0 (i : Nat) : BufTy := match i % 128 with
  | 0 => ⟨S128x2048, .f32⟩
  | 1 => ⟨S2048, .f32⟩
  | 2 => ⟨S2048x2048, .f32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i32⟩
  | 9 => ⟨S_, .i32⟩
  | 10 => ⟨S1048576, .i32⟩
  | 11 => ⟨S1048576, .i32⟩
  | 12 => ⟨S1048576, .i32⟩
  | 13 => ⟨S_, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i32⟩
  | 25 => ⟨S_, .i32⟩
  | 26 => ⟨S1048576, .i32⟩
  | 27 => ⟨S1048576, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i32⟩
  | 43 => ⟨S_, .i32⟩
  | 44 => ⟨S1048576, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S_, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S1048576, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i32⟩
  | 70 => ⟨S_, .i32⟩
  | 71 => ⟨S1048576, .i32⟩
  | 72 => ⟨S1048576, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i32⟩
  | 79 => ⟨S_, .i32⟩
  | 80 => ⟨S1048576, .i32⟩
  | 81 => ⟨S1048576, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S1048576, .i32⟩
  | 92 => ⟨S1048576, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i32⟩
  | 99 => ⟨S_, .i32⟩
  | 100 => ⟨S1048576, .i32⟩
  | 101 => ⟨S1048576, .i32⟩
  | 102 => ⟨S1048576, .i32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S_, .i32⟩
  | 116 => ⟨S1048576, .i32⟩
  | 117 => ⟨S1048576, .i32⟩
  | 118 => ⟨S1048576, .i32⟩
  | 119 => ⟨S1048576, .i32⟩
  | 120 => ⟨S1048576, .i32⟩
  | 121 => ⟨S_, .i32⟩
  | 122 => ⟨S1048576, .i32⟩
  | 123 => ⟨S1048576, .i32⟩
  | 124 => ⟨S_, .i32⟩
  | 125 => ⟨S1048576, .i32⟩
  | 126 => ⟨S1048576, .i32⟩
  | 127 => ⟨S1048576, .i32⟩
  | _ => ⟨S128x2048, .f32⟩

abbrev hbmTy0_1 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i32⟩
  | 5 => ⟨S_, .i32⟩
  | 6 => ⟨S1048576, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i32⟩
  | 13 => ⟨S_, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i32⟩
  | 23 => ⟨S_, .i32⟩
  | 24 => ⟨S1048576, .i32⟩
  | 25 => ⟨S1048576, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i32⟩
  | 44 => ⟨S1048576, .i32⟩
  | 45 => ⟨S1048576, .i32⟩
  | 46 => ⟨S1048576, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i32⟩
  | 68 => ⟨S_, .i32⟩
  | 69 => ⟨S1048576, .i32⟩
  | 70 => ⟨S1048576, .i32⟩
  | 71 => ⟨S1048576, .i32⟩
  | 72 => ⟨S1048576, .i32⟩
  | 73 => ⟨S1048576, .i32⟩
  | 74 => ⟨S_, .i32⟩
  | 75 => ⟨S1048576, .i32⟩
  | 76 => ⟨S1048576, .i32⟩
  | 77 => ⟨S_, .i32⟩
  | 78 => ⟨S1048576, .i32⟩
  | 79 => ⟨S1048576, .i32⟩
  | 80 => ⟨S1048576, .i32⟩
  | 81 => ⟨S1048576, .i32⟩
  | 82 => ⟨S1048576, .i32⟩
  | 83 => ⟨S_, .i32⟩
  | 84 => ⟨S1048576, .i32⟩
  | 85 => ⟨S1048576, .i32⟩
  | 86 => ⟨S_, .i32⟩
  | 87 => ⟨S1048576, .i32⟩
  | 88 => ⟨S1048576, .i32⟩
  | 89 => ⟨S1048576, .i32⟩
  | 90 => ⟨S1048576, .i32⟩
  | 91 => ⟨S1048576, .i32⟩
  | 92 => ⟨S_, .i32⟩
  | 93 => ⟨S1048576, .i32⟩
  | 94 => ⟨S1048576, .i32⟩
  | 95 => ⟨S_, .i32⟩
  | 96 => ⟨S1048576, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S1048576, .i32⟩
  | 110 => ⟨S_, .i32⟩
  | 111 => ⟨S1048576, .i32⟩
  | 112 => ⟨S1048576, .i32⟩
  | 113 => ⟨S_, .i32⟩
  | 114 => ⟨S1048576, .i32⟩
  | 115 => ⟨S1048576, .i32⟩
  | 116 => ⟨S1048576, .f32⟩
  | 117 => ⟨S_, .f32⟩
  | 118 => ⟨S1048576, .f32⟩
  | 119 => ⟨S1048576, .f32⟩
  | 120 => ⟨S512x2048, .f32⟩
  | 121 => ⟨S1x2048, .f32⟩
  | 122 => ⟨S1x1, .f32⟩
  | 123 => ⟨S1, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | .local _ .vmem, ⟨0, _⟩ => ⟨S1x2048, .f32⟩
  | .local _ .vmem, ⟨1, _⟩ => ⟨S128x2048, .f32⟩
  | .local _ .vmem, ⟨2, _⟩ => ⟨S512x2048, .f32⟩
  | .local _ .vmem, ⟨3, _⟩ => ⟨S2048x512, .f32⟩
  | .local _ .vmem, ⟨4, _⟩ => ⟨S2048x512, .f32⟩
  | .local _ .vmem, ⟨5, _⟩ => ⟨S1x1, .f32⟩
  | .local _ .vmem, ⟨6, _⟩ => ⟨S512x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_c_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_c_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_13 : Ref sig .tc := ⟨.hbm, 58, rfl⟩
abbrev main_v41 : Ref sig .tc := ⟨.hbm, 59, rfl⟩
abbrev main_v42 : Ref sig .tc := ⟨.hbm, 60, rfl⟩
abbrev main_c_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_15 : Ref sig .tc := ⟨.hbm, 67, rfl⟩
abbrev main_v48 : Ref sig .tc := ⟨.hbm, 68, rfl⟩
abbrev main_v49 : Ref sig .tc := ⟨.hbm, 69, rfl⟩
abbrev main_c_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_17 : Ref sig .tc := ⟨.hbm, 76, rfl⟩
abbrev main_v55 : Ref sig .tc := ⟨.hbm, 77, rfl⟩
abbrev main_v56 : Ref sig .tc := ⟨.hbm, 78, rfl⟩
abbrev main_c_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_19 : Ref sig .tc := ⟨.hbm, 85, rfl⟩
abbrev main_v62 : Ref sig .tc := ⟨.hbm, 86, rfl⟩
abbrev main_v63 : Ref sig .tc := ⟨.hbm, 87, rfl⟩
abbrev main_c_20 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_21 : Ref sig .tc := ⟨.hbm, 93, rfl⟩
abbrev main_v68 : Ref sig .tc := ⟨.hbm, 94, rfl⟩
abbrev main_v69 : Ref sig .tc := ⟨.hbm, 95, rfl⟩
abbrev main_c_22 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_24 : Ref sig .tc := ⟨.hbm, 103, rfl⟩
abbrev main_v75 : Ref sig .tc := ⟨.hbm, 104, rfl⟩
abbrev main_v76 : Ref sig .tc := ⟨.hbm, 105, rfl⟩
abbrev main_c_25 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_26 : Ref sig .tc := ⟨.hbm, 112, rfl⟩
abbrev main_v82 : Ref sig .tc := ⟨.hbm, 113, rfl⟩
abbrev main_v83 : Ref sig .tc := ⟨.hbm, 114, rfl⟩
abbrev main_c_27 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_28 : Ref sig .tc := ⟨.hbm, 121, rfl⟩
abbrev main_v89 : Ref sig .tc := ⟨.hbm, 122, rfl⟩
abbrev main_v90 : Ref sig .tc := ⟨.hbm, 123, rfl⟩
abbrev main_c_29 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_30 : Ref sig .tc := ⟨.hbm, 130, rfl⟩
abbrev main_v96 : Ref sig .tc := ⟨.hbm, 131, rfl⟩
abbrev main_v97 : Ref sig .tc := ⟨.hbm, 132, rfl⟩
abbrev main_c_31 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_32 : Ref sig .tc := ⟨.hbm, 138, rfl⟩
abbrev main_v102 : Ref sig .tc := ⟨.hbm, 139, rfl⟩
abbrev main_v103 : Ref sig .tc := ⟨.hbm, 140, rfl⟩
abbrev main_c_33 : Ref sig .tc := ⟨.hbm, 141, rfl⟩
abbrev main_v104 : Ref sig .tc := ⟨.hbm, 142, rfl⟩
abbrev main_v105 : Ref sig .tc := ⟨.hbm, 143, rfl⟩
abbrev main_c_34 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_35 : Ref sig .tc := ⟨.hbm, 148, rfl⟩
abbrev main_v109 : Ref sig .tc := ⟨.hbm, 149, rfl⟩
abbrev main_v110 : Ref sig .tc := ⟨.hbm, 150, rfl⟩
abbrev main_c_36 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_37 : Ref sig .tc := ⟨.hbm, 157, rfl⟩
abbrev main_v116 : Ref sig .tc := ⟨.hbm, 158, rfl⟩
abbrev main_v117 : Ref sig .tc := ⟨.hbm, 159, rfl⟩
abbrev main_c_38 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_39 : Ref sig .tc := ⟨.hbm, 166, rfl⟩
abbrev main_v123 : Ref sig .tc := ⟨.hbm, 167, rfl⟩
abbrev main_v124 : Ref sig .tc := ⟨.hbm, 168, rfl⟩
abbrev main_c_40 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_41 : Ref sig .tc := ⟨.hbm, 175, rfl⟩
abbrev main_v130 : Ref sig .tc := ⟨.hbm, 176, rfl⟩
abbrev main_v131 : Ref sig .tc := ⟨.hbm, 177, rfl⟩
abbrev main_c_42 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_43 : Ref sig .tc := ⟨.hbm, 183, rfl⟩
abbrev main_v136 : Ref sig .tc := ⟨.hbm, 184, rfl⟩
abbrev main_v137 : Ref sig .tc := ⟨.hbm, 185, rfl⟩
abbrev main_c_44 : Ref sig .tc := ⟨.hbm, 186, rfl⟩
abbrev main_v138 : Ref sig .tc := ⟨.hbm, 187, rfl⟩
abbrev main_v139 : Ref sig .tc := ⟨.hbm, 188, rfl⟩
abbrev main_c_45 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_46 : Ref sig .tc := ⟨.hbm, 193, rfl⟩
abbrev main_v143 : Ref sig .tc := ⟨.hbm, 194, rfl⟩
abbrev main_v144 : Ref sig .tc := ⟨.hbm, 195, rfl⟩
abbrev main_c_47 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_48 : Ref sig .tc := ⟨.hbm, 202, rfl⟩
abbrev main_v150 : Ref sig .tc := ⟨.hbm, 203, rfl⟩
abbrev main_v151 : Ref sig .tc := ⟨.hbm, 204, rfl⟩
abbrev main_c_49 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_c_50 : Ref sig .tc := ⟨.hbm, 211, rfl⟩
abbrev main_v157 : Ref sig .tc := ⟨.hbm, 212, rfl⟩
abbrev main_v158 : Ref sig .tc := ⟨.hbm, 213, rfl⟩
abbrev main_c_51 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_c_52 : Ref sig .tc := ⟨.hbm, 220, rfl⟩
abbrev main_v164 : Ref sig .tc := ⟨.hbm, 221, rfl⟩
abbrev main_v165 : Ref sig .tc := ⟨.hbm, 222, rfl⟩
abbrev main_c_53 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_c_54 : Ref sig .tc := ⟨.hbm, 228, rfl⟩
abbrev main_v170 : Ref sig .tc := ⟨.hbm, 229, rfl⟩
abbrev main_v171 : Ref sig .tc := ⟨.hbm, 230, rfl⟩
abbrev main_c_55 : Ref sig .tc := ⟨.hbm, 231, rfl⟩
abbrev main_v172 : Ref sig .tc := ⟨.hbm, 232, rfl⟩
abbrev main_v173 : Ref sig .tc := ⟨.hbm, 233, rfl⟩
abbrev main_c_56 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_c_57 : Ref sig .tc := ⟨.hbm, 238, rfl⟩
abbrev main_v177 : Ref sig .tc := ⟨.hbm, 239, rfl⟩
abbrev main_v178 : Ref sig .tc := ⟨.hbm, 240, rfl⟩
abbrev main_c_58 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_8 : Index := 0#32
  let arg0 : BitVec 32 := BitVec.ofNat 32 (i 0).val
  let c512_i32 : BitVec 32 := 512#32
  let v14 : BitVec 32 := Scalar.muli arg0 c512_i32
  let v15 : Index := Scalar.indexCast v14
  ![0, v15.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x2048 : Shape := ⟨2, ![128, 2048]⟩
abbrev S2048 : Shape := ⟨1, ![2048]⟩
abbrev S2048x2048 : Shape := ⟨2, ![2048, 2048]⟩
abbrev S_ : Shape := ⟨0, ![]⟩
abbrev S1 : Shape := ⟨1, ![1]⟩
abbrev S2 : Shape := ⟨1, ![2]⟩
abbrev S1x1 : Shape := ⟨2, ![1, 1]⟩
abbrev S512x2048 : Shape := ⟨2, ![512, 2048]⟩
abbrev S1x2048 : Shape := ⟨2, ![1, 2048]⟩
abbrev S1x128x1x2048 : Shape := ⟨4, ![1, 128, 1, 2048]⟩
abbrev S4x128x1x2048 : Shape := ⟨4, ![4, 128, 1, 2048]⟩
abbrev S2048x512 : Shape := ⟨2, ![2048, 512]⟩
abbrev S512 : Shape := ⟨1, ![512]⟩

abbrev nBuf : Space → Nat
  | .hbm => 562
  | .vmem => 0
  | .smem => 0
  | _ => 0

abbrev hbmTy0_0 (i : Nat) : BufTy := match i % 128 with
  | 0 => ⟨S128x2048, .f32⟩
  | 1 => ⟨S2048, .f32⟩
  | 2 => ⟨S2048x2048, .f32⟩
  | 3 => ⟨S2048, .f32⟩
  | 4 => ⟨S_, .f32⟩
  | 5 => ⟨S2048, .f32⟩
  | 6 => ⟨S2048, .f32⟩
  | 7 => ⟨S_, .f32⟩
  | 8 => ⟨S2048, .f32⟩
  | 9 => ⟨S2048, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S1, .i32⟩
  | 27 => ⟨S2, .i32⟩
  | 28 => ⟨S1, .i32⟩
  | 29 => ⟨S_, .i32⟩
  | 30 => ⟨S1, .i32⟩
  | 31 => ⟨S_, .i32⟩
  | 32 => ⟨S1, .i32⟩
  | 33 => ⟨S1, .i32⟩
  | 34 => ⟨S_, .i32⟩
  | 35 => ⟨S_, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S_, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S_, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S128x2048, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S_, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S_, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S128x2048, .f32⟩

abbrev hbmTy0_2 (i : Nat) : BufTy := match i % 128 with
  | 0 => ⟨S2, .i32⟩
  | 1 => ⟨S_, .f32⟩
  | 2 => ⟨S_, .f32⟩
  | 3 => ⟨S_, .f32⟩
  | 4 => ⟨S_, .f32⟩
  | 5 => ⟨S1x1, .f32⟩
  | 6 => ⟨S1x1, .f32⟩
  | 7 => ⟨S1, .i32⟩
  | 8 => ⟨S_, .i32⟩
  | 9 => ⟨S1, .i32⟩
  | 10 => ⟨S_, .i32⟩
  | 11 => ⟨S512x2048, .i64⟩
  | 12 => ⟨S512x2048, .i64⟩
  | 13 => ⟨S_, .i64⟩
  | 14 => ⟨S512x2048, .i64⟩
  | 15 => ⟨S512x2048, .i64⟩
  | 16 => ⟨S_, .i64⟩
  | 17 => ⟨S512x2048, .i64⟩
  | 18 => ⟨S512x2048, .i64⟩
  | 19 => ⟨S512x2048, .i64⟩
  | 20 => ⟨S_, .i64⟩
  | 21 => ⟨S512x2048, .i64⟩
  | 22 => ⟨S512x2048, .i64⟩
  | 23 => ⟨S512x2048, .i32⟩
  | 24 => ⟨S512x2048, .i32⟩
  | 25 => ⟨S_, .i32⟩
  | 26 => ⟨S_, .i32⟩
  | 27 => ⟨S_, .i32⟩
  | 28 => ⟨S512x2048, .i32⟩
  | 29 => ⟨S512x2048, .i32⟩
  | 30 => ⟨S512x2048, .i32⟩
  | 31 => ⟨S512x2048, .i32⟩
  | 32 => ⟨S512x2048, .i32⟩
  | 33 => ⟨S_, .i32⟩
  | 34 => ⟨S512x2048, .i32⟩
  | 35 => ⟨S512x2048, .i32⟩
  | 36 => ⟨S_, .i32⟩
  | 37 => ⟨S512x2048, .i32⟩
  | 38 => ⟨S512x2048, .i32⟩
  | 39 => ⟨S512x2048, .i32⟩
  | 40 => ⟨S512x2048, .i32⟩
  | 41 => ⟨S512x2048, .i32⟩
  | 42 => ⟨S_, .i32⟩
  | 43 => ⟨S512x2048, .i32⟩
  | 44 => ⟨S512x2048, .i32⟩
  | 45 => ⟨S_, .i32⟩
  | 46 => ⟨S512x2048, .i32⟩
  | 47 => ⟨S512x2048, .i32⟩
  | 48 => ⟨S512x2048, .i32⟩
  | 49 => ⟨S512x2048, .i32⟩
  | 50 => ⟨S512x2048, .i32⟩
  | 51 => ⟨S_, .i32⟩
  | 52 => ⟨S512x2048, .i32⟩
  | 53 => ⟨S512x2048, .i32⟩
  | 54 => ⟨S_, .i32⟩
  | 55 => ⟨S512x2048, .i32⟩
  | 56 => ⟨S512x2048, .i32⟩
  | 57 => ⟨S512x2048, .i32⟩
  | 58 => ⟨S512x2048, .i32⟩
  | 59 => ⟨S512x2048, .i32⟩
  | 60 => ⟨S_, .i32⟩
  | 61 => ⟨S512x2048, .i32⟩
  | 62 => ⟨S512x2048, .i32⟩
  | 63 => ⟨S_, .i32⟩
  | 64 => ⟨S512x2048, .i32⟩
  | 65 => ⟨S512x2048, .i32⟩
  | 66 => ⟨S512x2048, .i32⟩
  | 67 => ⟨S512x2048, .i32⟩
  | 68 => ⟨S512x2048, .i32⟩
  | 69 => ⟨S512x2048, .i32⟩
  | 70 => ⟨S512x2048, .i32⟩
  | 71 => ⟨S512x2048, .i32⟩
  | 72 => ⟨S_, .i32⟩
  | 73 => ⟨S512x2048, .i32⟩
  | 74 => ⟨S512x2048, .i32⟩
  | 75 => ⟨S512x2048, .i32⟩
  | 76 => ⟨S_, .i32⟩
  | 77 => ⟨S512x2048, .i32⟩
  | 78 => ⟨S512x2048, .i32⟩
  | 79 => ⟨S_, .i32⟩
  | 80 => ⟨S512x2048, .i32⟩
  | 81 => ⟨S512x2048, .i32⟩
  | 82 => ⟨S512x2048, .i32⟩
  | 83 => ⟨S512x2048, .i32⟩
  | 84 => ⟨S512x2048, .i32⟩
  | 85 => ⟨S_, .i32⟩
  | 86 => ⟨S512x2048, .i32⟩
  | 87 => ⟨S512x2048, .i32⟩
  | 88 => ⟨S_, .i32⟩
  | 89 => ⟨S512x2048, .i32⟩
  | 90 => ⟨S512x2048, .i32⟩
  | 91 => ⟨S512x2048, .i32⟩
  | 92 => ⟨S512x2048, .i32⟩
  | 93 => ⟨S512x2048, .i32⟩
  | 94 => ⟨S_, .i32⟩
  | 95 => ⟨S512x2048, .i32⟩
  | 96 => ⟨S512x2048, .i32⟩
  | 97 => ⟨S_, .i32⟩
  | 98 => ⟨S512x2048, .i32⟩
  | 99 => ⟨S512x2048, .i32⟩
  | 100 => ⟨S512x2048, .i32⟩
  | 101 => ⟨S512x2048, .i32⟩
  | 102 => ⟨S512x2048, .i32⟩
  | 103 => ⟨S_, .i32⟩
  | 104 => ⟨S512x2048, .i32⟩
  | 105 => ⟨S512x2048, .i32⟩
  | 106 => ⟨S_, .i32⟩
  | 107 => ⟨S512x2048, .i32⟩
  | 108 => ⟨S512x2048, .i32⟩
  | 109 => ⟨S512x2048, .i32⟩
  | 110 => ⟨S512x2048, .i32⟩
  | 111 => ⟨S512x2048, .i32⟩
  | 112 => ⟨S512x2048, .i32⟩
  | 113 => ⟨S512x2048, .i32⟩
  | 114 => ⟨S512x2048, .i32⟩
  | 115 => ⟨S_, .i32⟩
  | 116 => ⟨S512x2048, .i32⟩
  | 117 => ⟨S512x2048, .i32⟩
  | 118 => ⟨S512x2048, .i32⟩
  | 119 => ⟨S_, .i32⟩
  | 120 => ⟨S512x2048, .i32⟩
  | 121 => ⟨S512x2048, .i32⟩
  | 122 => ⟨S_, .i32⟩
  | 123 => ⟨S512x2048, .i32⟩
  | 124 => ⟨S512x2048, .i32⟩
  | 125 => ⟨S512x2048, .i32⟩
  | 126 => ⟨S512x2048, .i32⟩
  | 127 => ⟨S512x2048, .i32⟩
  | _ => ⟨S128x2048, .f32⟩

abbrev hbmTy0_3 (i : Nat) : BufTy := match i % 128 with
  | 0 => ⟨S_, .i32⟩
  | 1 => ⟨S512x2048, .i32⟩
  | 2 => ⟨S512x2048, .i32⟩
  | 3 => ⟨S_, .i32⟩
  | 4 => ⟨S512x2048, .i32⟩
  | 5 => ⟨S512x2048, .i32⟩
  | 6 => ⟨S512x2048, .i32⟩
  | 7 => ⟨S512x2048, .i32⟩
  | 8 => ⟨S512x2048, .i32⟩
  | 9 => ⟨S_, .i32⟩
  | 10 => ⟨S512x2048, .i32⟩
  | 11 => ⟨S512x2048, .i32⟩
  | 12 => ⟨S_, .i32⟩
  | 13 => ⟨S512x2048, .i32⟩
  | 14 => ⟨S512x2048, .i32⟩
  | 15 => ⟨S512x2048, .i32⟩
  | 16 => ⟨S512x2048, .i32⟩
  | 17 => ⟨S512x2048, .i32⟩
  | 18 => ⟨S_, .i32⟩
  | 19 => ⟨S512x2048, .i32⟩
  | 20 => ⟨S512x2048, .i32⟩
  | 21 => ⟨S_, .i32⟩
  | 22 => ⟨S512x2048, .i32⟩
  | 23 => ⟨S512x2048, .i32⟩
  | 24 => ⟨S512x2048, .i32⟩
  | 25 => ⟨S512x2048, .i32⟩
  | 26 => ⟨S512x2048, .i32⟩
  | 27 => ⟨S512x2048, .i32⟩
  | 28 => ⟨S512x2048, .i32⟩
  | 29 => ⟨S512x2048, .i32⟩
  | 30 => ⟨S_, .i32⟩
  | 31 => ⟨S512x2048, .i32⟩
  | 32 => ⟨S512x2048, .i32⟩
  | 33 => ⟨S512x2048, .i32⟩
  | 34 => ⟨S_, .i32⟩
  | 35 => ⟨S512x2048, .i32⟩
  | 36 => ⟨S512x2048, .i32⟩
  | 37 => ⟨S_, .i32⟩
  | 38 => ⟨S512x2048, .i32⟩
  | 39 => ⟨S512x2048, .i32⟩
  | 40 => ⟨S512x2048, .i32⟩
  | 41 => ⟨S512x2048, .i32⟩
  | 42 => ⟨S512x2048, .i32⟩
  | 43 => ⟨S_, .i32⟩
  | 44 => ⟨S512x2048, .i32⟩
  | 45 => ⟨S512x2048, .i32⟩
  | 46 => ⟨S_, .i32⟩
  | 47 => ⟨S512x2048, .i32⟩
  | 48 => ⟨S512x2048, .i32⟩
  | 49 => ⟨S512x2048, .i32⟩
  | 50 => ⟨S512x2048, .i32⟩
  | 51 => ⟨S512x2048, .i32⟩
  | 52 => ⟨S_, .i32⟩
  | 53 => ⟨S512x2048, .i32⟩
  | 54 => ⟨S512x2048, .i32⟩
  | 55 => ⟨S_, .i32⟩
  | 56 => ⟨S512x2048, .i32⟩
  | 57 => ⟨S512x2048, .i32⟩
  | 58 => ⟨S512x2048, .i32⟩
  | 59 => ⟨S512x2048, .i32⟩
  | 60 => ⟨S512x2048, .i32⟩
  | 61 => ⟨S_, .i32⟩
  | 62 => ⟨S512x2048, .i32⟩
  | 63 => ⟨S512x2048, .i32⟩
  | 64 => ⟨S_, .i32⟩
  | 65 => ⟨S512x2048, .i32⟩
  | 66 => ⟨S512x2048, .i32⟩
  | 67 => ⟨S512x2048, .i32⟩
  | 68 => ⟨S512x2048, .i32⟩
  | 69 => ⟨S512x2048, .i32⟩
  | 70 => ⟨S512x2048, .i32⟩
  | 71 => ⟨S512x2048, .i32⟩
  | 72 => ⟨S512x2048, .i32⟩
  | 73 => ⟨S_, .i32⟩
  | 74 => ⟨S512x2048, .i32⟩
  | 75 => ⟨S512x2048, .i32⟩
  | 76 => ⟨S512x2048, .i32⟩
  | 77 => ⟨S_, .i32⟩
  | 78 => ⟨S512x2048, .i32⟩
  | 79 => ⟨S512x2048, .i32⟩
  | 80 => ⟨S_, .i32⟩
  | 81 => ⟨S512x2048, .i32⟩
  | 82 => ⟨S512x2048, .i32⟩
  | 83 => ⟨S512x2048, .i32⟩
  | 84 => ⟨S512x2048, .i32⟩
  | 85 => ⟨S512x2048, .i32⟩
  | 86 => ⟨S_, .i32⟩
  | 87 => ⟨S512x2048, .i32⟩
  | 88 => ⟨S512x2048, .i32⟩
  | 89 => ⟨S_, .i32⟩
  | 90 => ⟨S512x2048, .i32⟩
  | 91 => ⟨S512x2048, .i32⟩
  | 92 => ⟨S512x2048, .i32⟩
  | 93 => ⟨S512x2048, .i32⟩
  | 94 => ⟨S512x2048, .i32⟩
  | 95 => ⟨S_, .i32⟩
  | 96 => ⟨S512x2048, .i32⟩
  | 97 => ⟨S512x2048, .i32⟩
  | 98 => ⟨S_, .i32⟩
  | 99 => ⟨S512x2048, .i32⟩
  | 100 => ⟨S512x2048, .i32⟩
  | 101 => ⟨S512x2048, .i32⟩
  | 102 => ⟨S512x2048, .i32⟩
  | 103 => ⟨S512x2048, .i32⟩
  | 104 => ⟨S_, .i32⟩
  | 105 => ⟨S512x2048, .i32⟩
  | 106 => ⟨S512x2048, .i32⟩
  | 107 => ⟨S_, .i32⟩
  | 108 => ⟨S512x2048, .i32⟩
  | 109 => ⟨S512x2048, .i32⟩
  | 110 => ⟨S512x2048, .i32⟩
  | 111 => ⟨S512x2048, .i32⟩
  | 112 => ⟨S512x2048, .i32⟩
  | 113 => ⟨S512x2048, .i32⟩
  | 114 => ⟨S512x2048, .i32⟩
  | 115 => ⟨S512x2048, .i32⟩
  | 116 => ⟨S_, .i32⟩
  | 117 => ⟨S512x2048, .i32⟩
  | 118 => ⟨S512x2048, .i32⟩
  | 119 => ⟨S512x2048, .i32⟩
  | 120 => ⟨S_, .i32⟩
  | 121 => ⟨S512x2048, .i32⟩
  | 122 => ⟨S512x2048, .i32⟩
  | 123 => ⟨S_, .i32⟩
  | 124 => ⟨S512x2048, .i32⟩
  | 125 => ⟨S512x2048, .i32⟩
  | 126 => ⟨S512x2048, .f32⟩
  | 127 => ⟨S_, .f32⟩
  | _ => ⟨S128x2048, .f32⟩

abbrev hbmTy0_4 (i : Nat) : BufTy := match i % 128 with
  | 0 => ⟨S512x2048, .f32⟩
  | 1 => ⟨S512x2048, .f32⟩
  | 2 => ⟨S1x1, .f32⟩
  | 3 => ⟨S512x2048, .f32⟩
  | 4 => ⟨S512x2048, .f32⟩
  | 5 => ⟨S512x2048, .f32⟩
  | 6 => ⟨S512x2048, .f32⟩
  | 7 => ⟨S512x2048, .f32⟩
  | 8 => ⟨S512x2048, .f32⟩
  | 9 => ⟨S1x2048, .f32⟩
  | 10 => ⟨S512x2048, .f32⟩
  | 11 => ⟨S512x2048, .i1⟩
  | 12 => ⟨S512x2048, .f32⟩
  | 13 => ⟨S1x128x1x2048, .f32⟩
  | 14 => ⟨S4x128x1x2048, .f32⟩
  | 15 => ⟨S512x2048, .f32⟩
  | 16 => ⟨S512x2048, .f32⟩
  | 17 => ⟨S_, .f32⟩
  | 18 => ⟨S512x2048, .f32⟩
  | 19 => ⟨S512x2048, .f32⟩
  | 20 => ⟨S_, .f32⟩
  | 21 => ⟨S512x2048, .f32⟩
  | 22 => ⟨S512x2048, .f32⟩
  | 23 => ⟨S512x2048, .f32⟩
  | 24 => ⟨S512x2048, .f32⟩
  | 25 => ⟨S2048x512, .f32⟩
  | 26 => ⟨S512, .f32⟩
  | 27 => ⟨S_, .f32⟩
  | 28 => ⟨S_, .f32⟩
  | 29 => ⟨S_, .f32⟩
  | 30 => ⟨S_, .f32⟩
  | 31 => ⟨S_, .f32⟩
  | 32 => ⟨S2048, .f32⟩
  | 33 => ⟨S2048, .f32⟩
  | 34 => ⟨S_, .f32⟩
  | 35 => ⟨S2048, .f32⟩
  | 36 => ⟨S2048, .f32⟩
  | 37 => ⟨S_, .f32⟩
  | 38 => ⟨S2048, .f32⟩
  | 39 => ⟨S2048, .f32⟩
  | 40 => ⟨S2048, .f32⟩
  | 41 => ⟨S2048, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S1, .f32⟩
  | _ => ⟨S128x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_call0_v0 : Ref sig .tc := ⟨.hbm, 34, rfl⟩
abbrev main_call0_call0_c : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_c_0 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_c_1 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_call0_v12 : Ref sig .tc := ⟨.hbm, 49, rfl⟩
abbrev main_call0_call0_v13 : Ref sig .tc := ⟨.hbm, 50, rfl⟩
abbrev main_call0_call0_c_2 : Ref sig .tc := ⟨.hbm, 51, rfl⟩
abbrev main_call0_call0_v14 : Ref sig .tc := ⟨.hbm, 52, rfl⟩
abbrev main_call0_call0_v15 : Ref sig .tc := ⟨.hbm, 53, rfl⟩
abbrev main_call0_call0_c_3 : Ref sig .tc := ⟨.hbm, 54, rfl⟩
abbrev main_call0_call0_v16 : Ref sig .tc := ⟨.hbm, 55, rfl⟩
abbrev main_call0_call0_v17 : Ref sig .tc := ⟨.hbm, 56, rfl⟩
abbrev main_call0_call0_v18 : Ref sig .tc := ⟨.hbm, 57, rfl⟩
abbrev main_call0_call0_v19 : Ref sig .tc := ⟨.hbm, 58, rfl⟩
abbrev main_call0_call0_v20 : Ref sig .tc := ⟨.hbm, 59, rfl⟩
abbrev main_call0_call0_c_4 : Ref sig .tc := ⟨.hbm, 60, rfl⟩
abbrev main_call0_call0_v21 : Ref sig .tc := ⟨.hbm, 61, rfl⟩
abbrev main_call0_call0_v22 : Ref sig .tc := ⟨.hbm, 62, rfl⟩
abbrev main_call0_call0_c_5 : Ref sig .tc := ⟨.hbm, 63, rfl⟩
abbrev main_call0_call0_v23 : Ref sig .tc := ⟨.hbm, 64, rfl⟩
abbrev main_call0_call0_v24 : Ref sig .tc := ⟨.hbm, 65, rfl⟩
abbrev main_call0_call0_v25 : Ref sig .tc := ⟨.hbm, 66, rfl⟩
abbrev main_call0_call0_v26 : Ref sig .tc := ⟨.hbm, 67, rfl⟩
abbrev main_call0_call0_v27 : Ref sig .tc := ⟨.hbm, 68, rfl⟩
abbrev main_call0_call0_c_6 : Ref sig .tc := ⟨.hbm, 69, rfl⟩
abbrev main_call0_call0_v28 : Ref sig .tc := ⟨.hbm, 70, rfl⟩
abbrev main_call0_call0_v29 : Ref sig .tc := ⟨.hbm, 71, rfl⟩
abbrev main_call0_call0_c_7 : Ref sig .tc := ⟨.hbm, 72, rfl⟩
abbrev main_call0_call0_v30 : Ref sig .tc := ⟨.hbm, 73, rfl⟩
abbrev main_call0_call0_v31 : Ref sig .tc := ⟨.hbm, 74, rfl⟩
abbrev main_call0_call0_v32 : Ref sig .tc := ⟨.hbm, 75, rfl⟩
abbrev main_call0_call0_v33 : Ref sig .tc := ⟨.hbm, 76, rfl⟩
abbrev main_call0_call0_v34 : Ref sig .tc := ⟨.hbm, 77, rfl⟩
abbrev main_call0_call0_v35 : Ref sig .tc := ⟨.hbm, 78, rfl⟩
abbrev main_call0_call0_v36 : Ref sig .tc := ⟨.hbm, 79, rfl⟩
abbrev main_call0_call0_v37 : Ref sig .tc := ⟨.hbm, 80, rfl⟩
abbrev main_call0_call0_c_8 : Ref sig .tc := ⟨.hbm, 81, rfl⟩
abbrev main_call0_call0_v38 : Ref sig .tc := ⟨.hbm, 82, rfl⟩
abbrev main_call0_call0_v39 : Ref sig .tc := ⟨.hbm, 83, rfl⟩
abbrev main_call0_call0_v40 : Ref sig .tc := ⟨.hbm, 84, rfl⟩
abbrev main_call0_call0_c_9 : Ref sig .tc := ⟨.hbm, 85, rfl⟩
abbrev main_call0_call0_v41 : Ref sig .tc := ⟨.hbm, 86, rfl⟩
abbrev main_call0_call0_v42 : Ref sig .tc := ⟨.hbm, 87, rfl⟩
abbrev main_call0_call0_c_10 : Ref sig .tc := ⟨.hbm, 88, rfl⟩
abbrev main_call0_call0_v43 : Ref sig .tc := ⟨.hbm, 89, rfl⟩
abbrev main_call0_call0_v44 : Ref sig .tc := ⟨.hbm, 90, rfl⟩
abbrev main_call0_call0_v45 : Ref sig .tc := ⟨.hbm, 91, rfl⟩
abbrev main_call0_call0_v46 : Ref sig .tc := ⟨.hbm, 92, rfl⟩
abbrev main_call0_call0_v47 : Ref sig .tc := ⟨.hbm, 93, rfl⟩
abbrev main_call0_call0_c_11 : Ref sig .tc := ⟨.hbm, 94, rfl⟩
abbrev main_call0_call0_v48 : Ref sig .tc := ⟨.hbm, 95, rfl⟩
abbrev main_call0_call0_v49 : Ref sig .tc := ⟨.hbm, 96, rfl⟩
abbrev main_call0_call0_c_12 : Ref sig .tc := ⟨.hbm, 97, rfl⟩
abbrev main_call0_call0_v50 : Ref sig .tc := ⟨.hbm, 98, rfl⟩
abbrev main_call0_call0_v51 : Ref sig .tc := ⟨.hbm, 99, rfl⟩
abbrev main_call0_call0_v52 : Ref sig .tc := ⟨.hbm, 100, rfl⟩
abbrev main_call0_call0_v53 : Ref sig .tc := ⟨.hbm, 101, rfl⟩
abbrev main_call0_call0_v54 : Ref sig .tc := ⟨.hbm, 102, rfl⟩
abbrev main_call0_call0_c_13 : Ref sig .tc := ⟨.hbm, 103, rfl⟩
abbrev main_call0_call0_v55 : Ref sig .tc := ⟨.hbm, 104, rfl⟩
abbrev main_call0_call0_v56 : Ref sig .tc := ⟨.hbm, 105, rfl⟩
abbrev main_call0_call0_c_14 : Ref sig .tc := ⟨.hbm, 106, rfl⟩
abbrev main_call0_call0_v57 : Ref sig .tc := ⟨.hbm, 107, rfl⟩
abbrev main_call0_call0_v58 : Ref sig .tc := ⟨.hbm, 108, rfl⟩
abbrev main_call0_call0_v59 : Ref sig .tc := ⟨.hbm, 109, rfl⟩
abbrev main_call0_call0_v60 : Ref sig .tc := ⟨.hbm, 110, rfl⟩
abbrev main_call0_call0_v61 : Ref sig .tc := ⟨.hbm, 111, rfl⟩
abbrev main_call0_call0_c_15 : Ref sig .tc := ⟨.hbm, 112, rfl⟩
abbrev main_call0_call0_v62 : Ref sig .tc := ⟨.hbm, 113, rfl⟩
abbrev main_call0_call0_v63 : Ref sig .tc := ⟨.hbm, 114, rfl⟩
abbrev main_call0_call0_c_16 : Ref sig .tc := ⟨.hbm, 115, rfl⟩
abbrev main_call0_call0_v64 : Ref sig .tc := ⟨.hbm, 116, rfl⟩
abbrev main_call0_call0_v65 : Ref sig .tc := ⟨.hbm, 117, rfl⟩
abbrev main_call0_call0_v66 : Ref sig .tc := ⟨.hbm, 118, rfl⟩
abbrev main_call0_call0_v67 : Ref sig .tc := ⟨.hbm, 119, rfl⟩
abbrev main_call0_call0_v68 : Ref sig .tc := ⟨.hbm, 120, rfl⟩
abbrev main_call0_call0_v69 : Ref sig .tc := ⟨.hbm, 121, rfl⟩
abbrev main_call0_call0_v70 : Ref sig .tc := ⟨.hbm, 122, rfl⟩
abbrev main_call0_call0_v71 : Ref sig .tc := ⟨.hbm, 123, rfl⟩
abbrev main_call0_call0_c_17 : Ref sig .tc := ⟨.hbm, 124, rfl⟩
abbrev main_call0_call0_v72 : Ref sig .tc := ⟨.hbm, 125, rfl⟩
abbrev main_call0_call0_v73 : Ref sig .tc := ⟨.hbm, 126, rfl⟩
abbrev main_call0_call0_v74 : Ref sig .tc := ⟨.hbm, 127, rfl⟩
abbrev main_call0_call0_c_18 : Ref sig .tc := ⟨.hbm, 128, rfl⟩
abbrev main_call0_call0_v75 : Ref sig .tc := ⟨.hbm, 129, rfl⟩
abbrev main_call0_call0_v76 : Ref sig .tc := ⟨.hbm, 130, rfl⟩
abbrev main_call0_call0_c_19 : Ref sig .tc := ⟨.hbm, 131, rfl⟩
abbrev main_call0_call0_v77 : Ref sig .tc := ⟨.hbm, 132, rfl⟩
abbrev main_call0_call0_v78 : Ref sig .tc := ⟨.hbm, 133, rfl⟩
abbrev main_call0_call0_v79 : Ref sig .tc := ⟨.hbm, 134, rfl⟩
abbrev main_call0_call0_v80 : Ref sig .tc := ⟨.hbm, 135, rfl⟩
abbrev main_call0_call0_v81 : Ref sig .tc := ⟨.hbm, 136, rfl⟩
abbrev main_call0_call0_c_20 : Ref sig .tc := ⟨.hbm, 137, rfl⟩
abbrev main_call0_call0_v82 : Ref sig .tc := ⟨.hbm, 138, rfl⟩
abbrev main_call0_call0_v83 : Ref sig .tc := ⟨.hbm, 139, rfl⟩
abbrev main_call0_call0_c_21 : Ref sig .tc := ⟨.hbm, 140, rfl⟩
abbrev main_call0_call0_v84 : Ref sig .tc := ⟨.hbm, 141, rfl⟩
abbrev main_call0_call0_v85 : Ref sig .tc := ⟨.hbm, 142, rfl⟩
abbrev main_call0_call0_v86 : Ref sig .tc := ⟨.hbm, 143, rfl⟩
abbrev main_call0_call0_v87 : Ref sig .tc := ⟨.hbm, 144, rfl⟩
abbrev main_call0_call0_v88 : Ref sig .tc := ⟨.hbm, 145, rfl⟩
abbrev main_call0_call0_c_22 : Ref sig .tc := ⟨.hbm, 146, rfl⟩
abbrev main_call0_call0_v89 : Ref sig .tc := ⟨.hbm, 147, rfl⟩
abbrev main_call0_call0_v90 : Ref sig .tc := ⟨.hbm, 148, rfl⟩
abbrev main_call0_call0_c_23 : Ref sig .tc := ⟨.hbm, 149, rfl⟩
abbrev main_call0_call0_v91 : Ref sig .tc := ⟨.hbm, 150, rfl⟩
abbrev main_call0_call0_v92 : Ref sig .tc := ⟨.hbm, 151, rfl⟩
abbrev main_call0_call0_v93 : Ref sig .tc := ⟨.hbm, 152, rfl⟩
abbrev main_call0_call0_v94 : Ref sig .tc := ⟨.hbm, 153, rfl⟩
abbrev main_call0_call0_v95 : Ref sig .tc := ⟨.hbm, 154, rfl⟩
abbrev main_call0_call0_c_24 : Ref sig .tc := ⟨.hbm, 155, rfl⟩
abbrev main_call0_call0_v96 : Ref sig .tc := ⟨.hbm, 156, rfl⟩
abbrev main_call0_call0_v97 : Ref sig .tc := ⟨.hbm, 157, rfl⟩
abbrev main_call0_call0_c_25 : Ref sig .tc := ⟨.hbm, 158, rfl⟩
abbrev main_call0_call0_v98 : Ref sig .tc := ⟨.hbm, 159, rfl⟩
abbrev main_call0_call0_v99 : Ref sig .tc := ⟨.hbm, 160, rfl⟩
abbrev main_call0_call0_v100 : Ref sig .tc := ⟨.hbm, 161, rfl⟩
abbrev main_call0_call0_v101 : Ref sig .tc := ⟨.hbm, 162, rfl⟩
abbrev main_call0_call0_v102 : Ref sig .tc := ⟨.hbm, 163, rfl⟩
abbrev main_call0_call0_v103 : Ref sig .tc := ⟨.hbm, 164, rfl⟩
abbrev main_call0_call0_v104 : Ref sig .tc := ⟨.hbm, 165, rfl⟩
abbrev main_call0_call0_v105 : Ref sig .tc := ⟨.hbm, 166, rfl⟩
abbrev main_call0_call0_c_26 : Ref sig .tc := ⟨.hbm, 167, rfl⟩
abbrev main_call0_call0_v106 : Ref sig .tc := ⟨.hbm, 168, rfl⟩
abbrev main_call0_call0_v107 : Ref sig .tc := ⟨.hbm, 169, rfl⟩
abbrev main_call0_call0_v108 : Ref sig .tc := ⟨.hbm, 170, rfl⟩
abbrev main_call0_call0_c_27 : Ref sig .tc := ⟨.hbm, 171, rfl⟩
abbrev main_call0_call0_v109 : Ref sig .tc := ⟨.hbm, 172, rfl⟩
abbrev main_call0_call0_v110 : Ref sig .tc := ⟨.hbm, 173, rfl⟩
abbrev main_call0_call0_c_28 : Ref sig .tc := ⟨.hbm, 174, rfl⟩
abbrev main_call0_call0_v111 : Ref sig .tc := ⟨.hbm, 175, rfl⟩
abbrev main_call0_call0_v112 : Ref sig .tc := ⟨.hbm, 176, rfl⟩
abbrev main_call0_call0_v113 : Ref sig .tc := ⟨.hbm, 177, rfl⟩
abbrev main_call0_call0_v114 : Ref sig .tc := ⟨.hbm, 178, rfl⟩
abbrev main_call0_call0_v115 : Ref sig .tc := ⟨.hbm, 179, rfl⟩
abbrev main_call0_call0_c_29 : Ref sig .tc := ⟨.hbm, 180, rfl⟩
abbrev main_call0_call0_v116 : Ref sig .tc := ⟨.hbm, 181, rfl⟩
abbrev main_call0_call0_v117 : Ref sig .tc := ⟨.hbm, 182, rfl⟩
abbrev main_call0_call0_c_30 : Ref sig .tc := ⟨.hbm, 183, rfl⟩
abbrev main_call0_call0_v118 : Ref sig .tc := ⟨.hbm, 184, rfl⟩
abbrev main_call0_call0_v119 : Ref sig .tc := ⟨.hbm, 185, rfl⟩
abbrev main_call0_call0_v120 : Ref sig .tc := ⟨.hbm, 186, rfl⟩
abbrev main_call0_call0_v121 : Ref sig .tc := ⟨.hbm, 187, rfl⟩
abbrev main_call0_call0_v122 : Ref sig .tc := ⟨.hbm, 188, rfl⟩
abbrev main_call0_call0_c_31 : Ref sig .tc := ⟨.hbm, 189, rfl⟩
abbrev main_call0_call0_v123 : Ref sig .tc := ⟨.hbm, 190, rfl⟩
abbrev main_call0_call0_v124 : Ref sig .tc := ⟨.hbm, 191, rfl⟩
abbrev main_call0_call0_c_32 : Ref sig .tc := ⟨.hbm, 192, rfl⟩
abbrev main_call0_call0_v125 : Ref sig .tc := ⟨.hbm, 193, rfl⟩
abbrev main_call0_call0_v126 : Ref sig .tc := ⟨.hbm, 194, rfl⟩
abbrev main_call0_call0_v127 : Ref sig .tc := ⟨.hbm, 195, rfl⟩
abbrev main_call0_call0_v128 : Ref sig .tc := ⟨.hbm, 196, rfl⟩
abbrev main_call0_call0_v129 : Ref sig .tc := ⟨.hbm, 197, rfl⟩
abbrev main_call0_call0_c_33 : Ref sig .tc := ⟨.hbm, 198, rfl⟩
abbrev main_call0_call0_v130 : Ref sig .tc := ⟨.hbm, 199, rfl⟩
abbrev main_call0_call0_v131 : Ref sig .tc := ⟨.hbm, 200, rfl⟩
abbrev main_call0_call0_c_34 : Ref sig .tc := ⟨.hbm, 201, rfl⟩
abbrev main_call0_call0_v132 : Ref sig .tc := ⟨.hbm, 202, rfl⟩
abbrev main_call0_call0_v133 : Ref sig .tc := ⟨.hbm, 203, rfl⟩
abbrev main_call0_call0_v134 : Ref sig .tc := ⟨.hbm, 204, rfl⟩
abbrev main_call0_call0_v135 : Ref sig .tc := ⟨.hbm, 205, rfl⟩
abbrev main_call0_call0_v136 : Ref sig .tc := ⟨.hbm, 206, rfl⟩
abbrev main_call0_call0_v137 : Ref sig .tc := ⟨.hbm, 207, rfl⟩
abbrev main_call0_call0_v138 : Ref sig .tc := ⟨.hbm, 208, rfl⟩
abbrev main_call0_call0_v139 : Ref sig .tc := ⟨.hbm, 209, rfl⟩
abbrev main_call0_call0_c_35 : Ref sig .tc := ⟨.hbm, 210, rfl⟩
abbrev main_call0_call0_v140 : Ref sig .tc := ⟨.hbm, 211, rfl⟩
abbrev main_call0_call0_v141 : Ref sig .tc := ⟨.hbm, 212, rfl⟩
abbrev main_call0_call0_v142 : Ref sig .tc := ⟨.hbm, 213, rfl⟩
abbrev main_call0_call0_c_36 : Ref sig .tc := ⟨.hbm, 214, rfl⟩
abbrev main_call0_call0_v143 : Ref sig .tc := ⟨.hbm, 215, rfl⟩
abbrev main_call0_call0_v144 : Ref sig .tc := ⟨.hbm, 216, rfl⟩
abbrev main_call0_call0_c_37 : Ref sig .tc := ⟨.hbm, 217, rfl⟩
abbrev main_call0_call0_v145 : Ref sig .tc := ⟨.hbm, 218, rfl⟩
abbrev main_call0_call0_v146 : Ref sig .tc := ⟨.hbm, 219, rfl⟩
abbrev main_call0_call0_v147 : Ref sig .tc := ⟨.hbm, 220, rfl⟩
abbrev main_call0_call0_v148 : Ref sig .tc := ⟨.hbm, 221, rfl⟩
abbrev main_call0_call0_v149 : Ref sig .tc := ⟨.hbm, 222, rfl⟩
abbrev main_call0_call0_c_38 : Ref sig .tc := ⟨.hbm, 223, rfl⟩
abbrev main_call0_call0_v150 : Ref sig .tc := ⟨.hbm, 224, rfl⟩
abbrev main_call0_call0_v151 : Ref sig .tc := ⟨.hbm, 225, rfl⟩
abbrev main_call0_call0_c_39 : Ref sig .tc := ⟨.hbm, 226, rfl⟩
abbrev main_call0_call0_v152 : Ref sig .tc := ⟨.hbm, 227, rfl⟩
abbrev main_call0_call0_v153 : Ref sig .tc := ⟨.hbm, 228, rfl⟩
abbrev main_call0_call0_v154 : Ref sig .tc := ⟨.hbm, 229, rfl⟩
abbrev main_call0_call0_v155 : Ref sig .tc := ⟨.hbm, 230, rfl⟩
abbrev main_call0_call0_v156 : Ref sig .tc := ⟨.hbm, 231, rfl⟩
abbrev main_call0_call0_c_40 : Ref sig .tc := ⟨.hbm, 232, rfl⟩
abbrev main_call0_call0_v157 : Ref sig .tc := ⟨.hbm, 233, rfl⟩
abbrev main_call0_call0_v158 : Ref sig .tc := ⟨.hbm, 234, rfl⟩
abbrev main_call0_call0_c_41 : Ref sig .tc := ⟨.hbm, 235, rfl⟩
abbrev main_call0_call0_v159 : Ref sig .tc := ⟨.hbm, 236, rfl⟩
abbrev main_call0_call0_v160 : Ref sig .tc := ⟨.hbm, 237, rfl⟩
abbrev main_call0_call0_v161 : Ref sig .tc := ⟨.hbm, 238, rfl⟩
abbrev main_call0_call0_v162 : Ref sig .tc := ⟨.hbm, 239, rfl⟩
abbrev main_call0_call0_v163 : Ref sig .tc := ⟨.hbm, 240, rfl⟩
abbrev main_call0_call0_c_42 : Ref sig .tc := ⟨.hbm, 241, rfl⟩
abbrev main_call0_call0_v164 : Ref sig .tc := ⟨.hbm, 242, rfl⟩
abbrev main_call0_call0_v165 : Ref sig .tc := ⟨.hbm, 243, rfl⟩
abbrev main_call0_call0_c_43 : Ref sig .tc := ⟨.hbm, 244, rfl⟩
abbrev main_call0_call0_v166 : Ref sig .tc := ⟨.hbm, 245, rfl⟩
abbrev main_call0_call0_v167 : Ref sig .tc := ⟨.hbm, 246, rfl⟩
abbrev main_call0_call0_v168 : Ref sig .tc := ⟨.hbm, 247, rfl⟩
abbrev main_call0_call0_v169 : Ref sig .tc := ⟨.hbm, 248, rfl⟩
abbrev main_call0_call0_v170 : Ref sig .tc := ⟨.hbm, 249, rfl⟩
abbrev main_call0_v11_0 : Ref sig .tc := ⟨.hbm, 250, rfl⟩
abbrev main_call0_call0_v172 : Ref sig .tc := ⟨.hbm, 251, rfl⟩
abbrev main_call0_call0_v173 : Ref sig .tc := ⟨.hbm, 252, rfl⟩
abbrev main_call0_call0_c_44 : Ref sig .tc := ⟨.hbm, 253, rfl⟩
abbrev main_call0_call0_v174 : Ref sig .tc := ⟨.hbm, 254, rfl⟩
abbrev main_call0_v11_1 : Ref sig .tc := ⟨.hbm, 255, rfl⟩
abbrev main_v12 : Ref sig .tc := ⟨.hbm, 256, rfl⟩
abbrev main_cst_4 : Ref sig .tc := ⟨.hbm, 257, rfl⟩
abbrev main_cst_5 : Ref sig .tc := ⟨.hbm, 258, rfl⟩
abbrev main_call1_v0 : Ref sig .tc := ⟨.hbm, 259, rfl⟩
abbrev main_call1_v1 : Ref sig .tc := ⟨.hbm, 260, rfl⟩
abbrev main_call1_v2 : Ref sig .tc := ⟨.hbm, 261, rfl⟩
abbrev main_call1_v3 : Ref sig .tc := ⟨.hbm, 262, rfl⟩
abbrev main_call1_v4 : Ref sig .tc := ⟨.hbm, 263, rfl⟩
abbrev main_call1_v5 : Ref sig .tc := ⟨.hbm, 264, rfl⟩
abbrev main_call1_v6 : Ref sig .tc := ⟨.hbm, 265, rfl⟩
abbrev main_call1_v7 : Ref sig .tc := ⟨.hbm, 266, rfl⟩
abbrev main_call1_v8 : Ref sig .tc := ⟨.hbm, 267, rfl⟩
abbrev main_call1_v9 : Ref sig .tc := ⟨.hbm, 268, rfl⟩
abbrev main_call1_c : Ref sig .tc := ⟨.hbm, 269, rfl⟩
abbrev main_call1_v10 : Ref sig .tc := ⟨.hbm, 270, rfl⟩
abbrev main_call1_v11 : Ref sig .tc := ⟨.hbm, 271, rfl⟩
abbrev main_call1_c_0 : Ref sig .tc := ⟨.hbm, 272, rfl⟩
abbrev main_call1_v12 : Ref sig .tc := ⟨.hbm, 273, rfl⟩
abbrev main_call1_v13 : Ref sig .tc := ⟨.hbm, 274, rfl⟩
abbrev main_call1_v14 : Ref sig .tc := ⟨.hbm, 275, rfl⟩
abbrev main_call1_c_1 : Ref sig .tc := ⟨.hbm, 276, rfl⟩
abbrev main_call1_v15 : Ref sig .tc := ⟨.hbm, 277, rfl⟩
abbrev main_call1_v16 : Ref sig .tc := ⟨.hbm, 278, rfl⟩
abbrev main_call1_v17 : Ref sig .tc := ⟨.hbm, 279, rfl⟩
abbrev main_call1_v18 : Ref sig .tc := ⟨.hbm, 280, rfl⟩
abbrev main_call1_call0_v0 : Ref sig .tc := ⟨.hbm, 281, rfl⟩
abbrev main_call1_call0_c : Ref sig .tc := ⟨.hbm, 282, rfl⟩
abbrev main_call1_call0_v1 : Ref sig .tc := ⟨.hbm, 283, rfl⟩
abbrev main_call1_call0_v2 : Ref sig .tc := ⟨.hbm, 284, rfl⟩
abbrev main_call1_call0_v3 : Ref sig .tc := ⟨.hbm, 285, rfl⟩
abbrev main_call1_call0_v4 : Ref sig .tc := ⟨.hbm, 286, rfl⟩
abbrev main_call1_call0_v5 : Ref sig .tc := ⟨.hbm, 287, rfl⟩
abbrev main_call1_call0_v6 : Ref sig .tc := ⟨.hbm, 288, rfl⟩
abbrev main_call1_call0_c_0 : Ref sig .tc := ⟨.hbm, 289, rfl⟩
abbrev main_call1_call0_v7 : Ref sig .tc := ⟨.hbm, 290, rfl⟩
abbrev main_call1_call0_v8 : Ref sig .tc := ⟨.hbm, 291, rfl⟩
abbrev main_call1_call0_c_1 : Ref sig .tc := ⟨.hbm, 292, rfl⟩
abbrev main_call1_call0_v9 : Ref sig .tc := ⟨.hbm, 293, rfl⟩
abbrev main_call1_call0_v10 : Ref sig .tc := ⟨.hbm, 294, rfl⟩
abbrev main_call1_call0_v11 : Ref sig .tc := ⟨.hbm, 295, rfl⟩
abbrev main_call1_call0_v12 : Ref sig .tc := ⟨.hbm, 296, rfl⟩
abbrev main_call1_call0_v13 : Ref sig .tc := ⟨.hbm, 297, rfl⟩
abbrev main_call1_call0_c_2 : Ref sig .tc := ⟨.hbm, 298, rfl⟩
abbrev main_call1_call0_v14 : Ref sig .tc := ⟨.hbm, 299, rfl⟩
abbrev main_call1_call0_v15 : Ref sig .tc := ⟨.hbm, 300, rfl⟩
abbrev main_call1_call0_c_3 : Ref sig .tc := ⟨.hbm, 301, rfl⟩
abbrev main_call1_call0_v16 : Ref sig .tc := ⟨.hbm, 302, rfl⟩
abbrev main_call1_call0_v17 : Ref sig .tc := ⟨.hbm, 303, rfl⟩
abbrev main_call1_call0_v18 : Ref sig .tc := ⟨.hbm, 304, rfl⟩
abbrev main_call1_call0_v19 : Ref sig .tc := ⟨.hbm, 305, rfl⟩
abbrev main_call1_call0_v20 : Ref sig .tc := ⟨.hbm, 306, rfl⟩
abbrev main_call1_call0_c_4 : Ref sig .tc := ⟨.hbm, 307, rfl⟩
abbrev main_call1_call0_v21 : Ref sig .tc := ⟨.hbm, 308, rfl⟩
abbrev main_call1_call0_v22 : Ref sig .tc := ⟨.hbm, 309, rfl⟩
abbrev main_call1_call0_c_5 : Ref sig .tc := ⟨.hbm, 310, rfl⟩
abbrev main_call1_call0_v23 : Ref sig .tc := ⟨.hbm, 311, rfl⟩
abbrev main_call1_call0_v24 : Ref sig .tc := ⟨.hbm, 312, rfl⟩
abbrev main_call1_call0_v25 : Ref sig .tc := ⟨.hbm, 313, rfl⟩
abbrev main_call1_call0_v26 : Ref sig .tc := ⟨.hbm, 314, rfl⟩
abbrev main_call1_call0_v27 : Ref sig .tc := ⟨.hbm, 315, rfl⟩
abbrev main_call1_call0_c_6 : Ref sig .tc := ⟨.hbm, 316, rfl⟩
abbrev main_call1_call0_v28 : Ref sig .tc := ⟨.hbm, 317, rfl⟩
abbrev main_call1_call0_v29 : Ref sig .tc := ⟨.hbm, 318, rfl⟩
abbrev main_call1_call0_c_7 : Ref sig .tc := ⟨.hbm, 319, rfl⟩
abbrev main_call1_call0_v30 : Ref sig .tc := ⟨.hbm, 320, rfl⟩
abbrev main_call1_call0_v31 : Ref sig .tc := ⟨.hbm, 321, rfl⟩
abbrev main_call1_call0_v32 : Ref sig .tc := ⟨.hbm, 322, rfl⟩
abbrev main_call1_call0_v33 : Ref sig .tc := ⟨.hbm, 323, rfl⟩
abbrev main_call1_call0_v34 : Ref sig .tc := ⟨.hbm, 324, rfl⟩
abbrev main_call1_call0_v35 : Ref sig .tc := ⟨.hbm, 325, rfl⟩
abbrev main_call1_call0_v36 : Ref sig .tc := ⟨.hbm, 326, rfl⟩
abbrev main_call1_call0_v37 : Ref sig .tc := ⟨.hbm, 327, rfl⟩
abbrev main_call1_call0_c_8 : Ref sig .tc := ⟨.hbm, 328, rfl⟩
abbrev main_call1_call0_v38 : Ref sig .tc := ⟨.hbm, 329, rfl⟩
abbrev main_call1_call0_v39 : Ref sig .tc := ⟨.hbm, 330, rfl⟩
abbrev main_call1_call0_v40 : Ref sig .tc := ⟨.hbm, 331, rfl⟩
abbrev main_call1_call0_c_9 : Ref sig .tc := ⟨.hbm, 332, rfl⟩
abbrev main_call1_call0_v41 : Ref sig .tc := ⟨.hbm, 333, rfl⟩
abbrev main_call1_call0_v42 : Ref sig .tc := ⟨.hbm, 334, rfl⟩
abbrev main_call1_call0_c_10 : Ref sig .tc := ⟨.hbm, 335, rfl⟩
abbrev main_call1_call0_v43 : Ref sig .tc := ⟨.hbm, 336, rfl⟩
abbrev main_call1_call0_v44 : Ref sig .tc := ⟨.hbm, 337, rfl⟩
abbrev main_call1_call0_v45 : Ref sig .tc := ⟨.hbm, 338, rfl⟩
abbrev main_call1_call0_v46 : Ref sig .tc := ⟨.hbm, 339, rfl⟩
abbrev main_call1_call0_v47 : Ref sig .tc := ⟨.hbm, 340, rfl⟩
abbrev main_call1_call0_c_11 : Ref sig .tc := ⟨.hbm, 341, rfl⟩
abbrev main_call1_call0_v48 : Ref sig .tc := ⟨.hbm, 342, rfl⟩
abbrev main_call1_call0_v49 : Ref sig .tc := ⟨.hbm, 343, rfl⟩
abbrev main_call1_call0_c_12 : Ref sig .tc := ⟨.hbm, 344, rfl⟩
abbrev main_call1_call0_v50 : Ref sig .tc := ⟨.hbm, 345, rfl⟩
abbrev main_call1_call0_v51 : Ref sig .tc := ⟨.hbm, 346, rfl⟩
abbrev main_call1_call0_v52 : Ref sig .tc := ⟨.hbm, 347, rfl⟩
abbrev main_call1_call0_v53 : Ref sig .tc := ⟨.hbm, 348, rfl⟩
abbrev main_call1_call0_v54 : Ref sig .tc := ⟨.hbm, 349, rfl⟩
abbrev main_call1_call0_c_13 : Ref sig .tc := ⟨.hbm, 350, rfl⟩
abbrev main_call1_call0_v55 : Ref sig .tc := ⟨.hbm, 351, rfl⟩
abbrev main_call1_call0_v56 : Ref sig .tc := ⟨.hbm, 352, rfl⟩
abbrev main_call1_call0_c_14 : Ref sig .tc := ⟨.hbm, 353, rfl⟩
abbrev main_call1_call0_v57 : Ref sig .tc := ⟨.hbm, 354, rfl⟩
abbrev main_call1_call0_v58 : Ref sig .tc := ⟨.hbm, 355, rfl⟩
abbrev main_call1_call0_v59 : Ref sig .tc := ⟨.hbm, 356, rfl⟩
abbrev main_call1_call0_v60 : Ref sig .tc := ⟨.hbm, 357, rfl⟩
abbrev main_call1_call0_v61 : Ref sig .tc := ⟨.hbm, 358, rfl⟩
abbrev main_call1_call0_c_15 : Ref sig .tc := ⟨.hbm, 359, rfl⟩
abbrev main_call1_call0_v62 : Ref sig .tc := ⟨.hbm, 360, rfl⟩
abbrev main_call1_call0_v63 : Ref sig .tc := ⟨.hbm, 361, rfl⟩
abbrev main_call1_call0_c_16 : Ref sig .tc := ⟨.hbm, 362, rfl⟩
abbrev main_call1_call0_v64 : Ref sig .tc := ⟨.hbm, 363, rfl⟩
abbrev main_call1_call0_v65 : Ref sig .tc := ⟨.hbm, 364, rfl⟩
abbrev main_call1_call0_v66 : Ref sig .tc := ⟨.hbm, 365, rfl⟩
abbrev main_call1_call0_v67 : Ref sig .tc := ⟨.hbm, 366, rfl⟩
abbrev main_call1_call0_v68 : Ref sig .tc := ⟨.hbm, 367, rfl⟩
abbrev main_call1_call0_v69 : Ref sig .tc := ⟨.hbm, 368, rfl⟩
abbrev main_call1_call0_v70 : Ref sig .tc := ⟨.hbm, 369, rfl⟩
abbrev main_call1_call0_v71 : Ref sig .tc := ⟨.hbm, 370, rfl⟩
abbrev main_call1_call0_c_17 : Ref sig .tc := ⟨.hbm, 371, rfl⟩
abbrev main_call1_call0_v72 : Ref sig .tc := ⟨.hbm, 372, rfl⟩
abbrev main_call1_call0_v73 : Ref sig .tc := ⟨.hbm, 373, rfl⟩
abbrev main_call1_call0_v74 : Ref sig .tc := ⟨.hbm, 374, rfl⟩
abbrev main_call1_call0_c_18 : Ref sig .tc := ⟨.hbm, 375, rfl⟩
abbrev main_call1_call0_v75 : Ref sig .tc := ⟨.hbm, 376, rfl⟩
abbrev main_call1_call0_v76 : Ref sig .tc := ⟨.hbm, 377, rfl⟩
abbrev main_call1_call0_c_19 : Ref sig .tc := ⟨.hbm, 378, rfl⟩
abbrev main_call1_call0_v77 : Ref sig .tc := ⟨.hbm, 379, rfl⟩
abbrev main_call1_call0_v78 : Ref sig .tc := ⟨.hbm, 380, rfl⟩
abbrev main_call1_call0_v79 : Ref sig .tc := ⟨.hbm, 381, rfl⟩
abbrev main_call1_call0_v80 : Ref sig .tc := ⟨.hbm, 382, rfl⟩
abbrev main_call1_call0_v81 : Ref sig .tc := ⟨.hbm, 383, rfl⟩
abbrev main_call1_call0_c_20 : Ref sig .tc := ⟨.hbm, 384, rfl⟩
abbrev main_call1_call0_v82 : Ref sig .tc := ⟨.hbm, 385, rfl⟩
abbrev main_call1_call0_v83 : Ref sig .tc := ⟨.hbm, 386, rfl⟩
abbrev main_call1_call0_c_21 : Ref sig .tc := ⟨.hbm, 387, rfl⟩
abbrev main_call1_call0_v84 : Ref sig .tc := ⟨.hbm, 388, rfl⟩
abbrev main_call1_call0_v85 : Ref sig .tc := ⟨.hbm, 389, rfl⟩
abbrev main_call1_call0_v86 : Ref sig .tc := ⟨.hbm, 390, rfl⟩
abbrev main_call1_call0_v87 : Ref sig .tc := ⟨.hbm, 391, rfl⟩
abbrev main_call1_call0_v88 : Ref sig .tc := ⟨.hbm, 392, rfl⟩
abbrev main_call1_call0_c_22 : Ref sig .tc := ⟨.hbm, 393, rfl⟩
abbrev main_call1_call0_v89 : Ref sig .tc := ⟨.hbm, 394, rfl⟩
abbrev main_call1_call0_v90 : Ref sig .tc := ⟨.hbm, 395, rfl⟩
abbrev main_call1_call0_c_23 : Ref sig .tc := ⟨.hbm, 396, rfl⟩
abbrev main_call1_call0_v91 : Ref sig .tc := ⟨.hbm, 397, rfl⟩
abbrev main_call1_call0_v92 : Ref sig .tc := ⟨.hbm, 398, rfl⟩
abbrev main_call1_call0_v93 : Ref sig .tc := ⟨.hbm, 399, rfl⟩
abbrev main_call1_call0_v94 : Ref sig .tc := ⟨.hbm, 400, rfl⟩
abbrev main_call1_call0_v95 : Ref sig .tc := ⟨.hbm, 401, rfl⟩
abbrev main_call1_call0_c_24 : Ref sig .tc := ⟨.hbm, 402, rfl⟩
abbrev main_call1_call0_v96 : Ref sig .tc := ⟨.hbm, 403, rfl⟩
abbrev main_call1_call0_v97 : Ref sig .tc := ⟨.hbm, 404, rfl⟩
abbrev main_call1_call0_c_25 : Ref sig .tc := ⟨.hbm, 405, rfl⟩
abbrev main_call1_call0_v98 : Ref sig .tc := ⟨.hbm, 406, rfl⟩
abbrev main_call1_call0_v99 : Ref sig .tc := ⟨.hbm, 407, rfl⟩
abbrev main_call1_call0_v100 : Ref sig .tc := ⟨.hbm, 408, rfl⟩
abbrev main_call1_call0_v101 : Ref sig .tc := ⟨.hbm, 409, rfl⟩
abbrev main_call1_call0_v102 : Ref sig .tc := ⟨.hbm, 410, rfl⟩
abbrev main_call1_call0_v103 : Ref sig .tc := ⟨.hbm, 411, rfl⟩
abbrev main_call1_call0_v104 : Ref sig .tc := ⟨.hbm, 412, rfl⟩
abbrev main_call1_call0_v105 : Ref sig .tc := ⟨.hbm, 413, rfl⟩
abbrev main_call1_call0_c_26 : Ref sig .tc := ⟨.hbm, 414, rfl⟩
abbrev main_call1_call0_v106 : Ref sig .tc := ⟨.hbm, 415, rfl⟩
abbrev main_call1_call0_v107 : Ref sig .tc := ⟨.hbm, 416, rfl⟩
abbrev main_call1_call0_v108 : Ref sig .tc := ⟨.hbm, 417, rfl⟩
abbrev main_call1_call0_c_27 : Ref sig .tc := ⟨.hbm, 418, rfl⟩
abbrev main_call1_call0_v109 : Ref sig .tc := ⟨.hbm, 419, rfl⟩
abbrev main_call1_call0_v110 : Ref sig .tc := ⟨.hbm, 420, rfl⟩
abbrev main_call1_call0_c_28 : Ref sig .tc := ⟨.hbm, 421, rfl⟩
abbrev main_call1_call0_v111 : Ref sig .tc := ⟨.hbm, 422, rfl⟩
abbrev main_call1_call0_v112 : Ref sig .tc := ⟨.hbm, 423, rfl⟩
abbrev main_call1_call0_v113 : Ref sig .tc := ⟨.hbm, 424, rfl⟩
abbrev main_call1_call0_v114 : Ref sig .tc := ⟨.hbm, 425, rfl⟩
abbrev main_call1_call0_v115 : Ref sig .tc := ⟨.hbm, 426, rfl⟩
abbrev main_call1_call0_c_29 : Ref sig .tc := ⟨.hbm, 427, rfl⟩
abbrev main_call1_call0_v116 : Ref sig .tc := ⟨.hbm, 428, rfl⟩
abbrev main_call1_call0_v117 : Ref sig .tc := ⟨.hbm, 429, rfl⟩
abbrev main_call1_call0_c_30 : Ref sig .tc := ⟨.hbm, 430, rfl⟩
abbrev main_call1_call0_v118 : Ref sig .tc := ⟨.hbm, 431, rfl⟩
abbrev main_call1_call0_v119 : Ref sig .tc := ⟨.hbm, 432, rfl⟩
abbrev main_call1_call0_v120 : Ref sig .tc := ⟨.hbm, 433, rfl⟩
abbrev main_call1_call0_v121 : Ref sig .tc := ⟨.hbm, 434, rfl⟩
abbrev main_call1_call0_v122 : Ref sig .tc := ⟨.hbm, 435, rfl⟩
abbrev main_call1_call0_c_31 : Ref sig .tc := ⟨.hbm, 436, rfl⟩
abbrev main_call1_call0_v123 : Ref sig .tc := ⟨.hbm, 437, rfl⟩
abbrev main_call1_call0_v124 : Ref sig .tc := ⟨.hbm, 438, rfl⟩
abbrev main_call1_call0_c_32 : Ref sig .tc := ⟨.hbm, 439, rfl⟩
abbrev main_call1_call0_v125 : Ref sig .tc := ⟨.hbm, 440, rfl⟩
abbrev main_call1_call0_v126 : Ref sig .tc := ⟨.hbm, 441, rfl⟩
abbrev main_call1_call0_v127 : Ref sig .tc := ⟨.hbm, 442, rfl⟩
abbrev main_call1_call0_v128 : Ref sig .tc := ⟨.hbm, 443, rfl⟩
abbrev main_call1_call0_v129 : Ref sig .tc := ⟨.hbm, 444, rfl⟩
abbrev main_call1_call0_c_33 : Ref sig .tc := ⟨.hbm, 445, rfl⟩
abbrev main_call1_call0_v130 : Ref sig .tc := ⟨.hbm, 446, rfl⟩
abbrev main_call1_call0_v131 : Ref sig .tc := ⟨.hbm, 447, rfl⟩
abbrev main_call1_call0_c_34 : Ref sig .tc := ⟨.hbm, 448, rfl⟩
abbrev main_call1_call0_v132 : Ref sig .tc := ⟨.hbm, 449, rfl⟩
abbrev main_call1_call0_v133 : Ref sig .tc := ⟨.hbm, 450, rfl⟩
abbrev main_call1_call0_v134 : Ref sig .tc := ⟨.hbm, 451, rfl⟩
abbrev main_call1_call0_v135 : Ref sig .tc := ⟨.hbm, 452, rfl⟩
abbrev main_call1_call0_v136 : Ref sig .tc := ⟨.hbm, 453, rfl⟩
abbrev main_call1_call0_v137 : Ref sig .tc := ⟨.hbm, 454, rfl⟩
abbrev main_call1_call0_v138 : Ref sig .tc := ⟨.hbm, 455, rfl⟩
abbrev main_call1_call0_v139 : Ref sig .tc := ⟨.hbm, 456, rfl⟩
abbrev main_call1_call0_c_35 : Ref sig .tc := ⟨.hbm, 457, rfl⟩
abbrev main_call1_call0_v140 : Ref sig .tc := ⟨.hbm, 458, rfl⟩
abbrev main_call1_call0_v141 : Ref sig .tc := ⟨.hbm, 459, rfl⟩
abbrev main_call1_call0_v142 : Ref sig .tc := ⟨.hbm, 460, rfl⟩
abbrev main_call1_call0_c_36 : Ref sig .tc := ⟨.hbm, 461, rfl⟩
abbrev main_call1_call0_v143 : Ref sig .tc := ⟨.hbm, 462, rfl⟩
abbrev main_call1_call0_v144 : Ref sig .tc := ⟨.hbm, 463, rfl⟩
abbrev main_call1_call0_c_37 : Ref sig .tc := ⟨.hbm, 464, rfl⟩
abbrev main_call1_call0_v145 : Ref sig .tc := ⟨.hbm, 465, rfl⟩
abbrev main_call1_call0_v146 : Ref sig .tc := ⟨.hbm, 466, rfl⟩
abbrev main_call1_call0_v147 : Ref sig .tc := ⟨.hbm, 467, rfl⟩
abbrev main_call1_call0_v148 : Ref sig .tc := ⟨.hbm, 468, rfl⟩
abbrev main_call1_call0_v149 : Ref sig .tc := ⟨.hbm, 469, rfl⟩
abbrev main_call1_call0_c_38 : Ref sig .tc := ⟨.hbm, 470, rfl⟩
abbrev main_call1_call0_v150 : Ref sig .tc := ⟨.hbm, 471, rfl⟩
abbrev main_call1_call0_v151 : Ref sig .tc := ⟨.hbm, 472, rfl⟩
abbrev main_call1_call0_c_39 : Ref sig .tc := ⟨.hbm, 473, rfl⟩
abbrev main_call1_call0_v152 : Ref sig .tc := ⟨.hbm, 474, rfl⟩
abbrev main_call1_call0_v153 : Ref sig .tc := ⟨.hbm, 475, rfl⟩
abbrev main_call1_call0_v154 : Ref sig .tc := ⟨.hbm, 476, rfl⟩
abbrev main_call1_call0_v155 : Ref sig .tc := ⟨.hbm, 477, rfl⟩
abbrev main_call1_call0_v156 : Ref sig .tc := ⟨.hbm, 478, rfl⟩
abbrev main_call1_call0_c_40 : Ref sig .tc := ⟨.hbm, 479, rfl⟩
abbrev main_call1_call0_v157 : Ref sig .tc := ⟨.hbm, 480, rfl⟩
abbrev main_call1_call0_v158 : Ref sig .tc := ⟨.hbm, 481, rfl⟩
abbrev main_call1_call0_c_41 : Ref sig .tc := ⟨.hbm, 482, rfl⟩
abbrev main_call1_call0_v159 : Ref sig .tc := ⟨.hbm, 483, rfl⟩
abbrev main_call1_call0_v160 : Ref sig .tc := ⟨.hbm, 484, rfl⟩
abbrev main_call1_call0_v161 : Ref sig .tc := ⟨.hbm, 485, rfl⟩
abbrev main_call1_call0_v162 : Ref sig .tc := ⟨.hbm, 486, rfl⟩
abbrev main_call1_call0_v163 : Ref sig .tc := ⟨.hbm, 487, rfl⟩
abbrev main_call1_call0_c_42 : Ref sig .tc := ⟨.hbm, 488, rfl⟩
abbrev main_call1_call0_v164 : Ref sig .tc := ⟨.hbm, 489, rfl⟩
abbrev main_call1_call0_v165 : Ref sig .tc := ⟨.hbm, 490, rfl⟩
abbrev main_call1_call0_c_43 : Ref sig .tc := ⟨.hbm, 491, rfl⟩
abbrev main_call1_call0_v166 : Ref sig .tc := ⟨.hbm, 492, rfl⟩
abbrev main_call1_call0_v167 : Ref sig .tc := ⟨.hbm, 493, rfl⟩
abbrev main_call1_call0_v168 : Ref sig .tc := ⟨.hbm, 494, rfl⟩
abbrev main_call1_call0_v169 : Ref sig .tc := ⟨.hbm, 495, rfl⟩
abbrev main_call1_call0_v170 : Ref sig .tc := ⟨.hbm, 496, rfl⟩
abbrev main_call1_v19_0 : Ref sig .tc := ⟨.hbm, 497, rfl⟩
abbrev main_call1_call0_v172 : Ref sig .tc := ⟨.hbm, 498, rfl⟩
abbrev main_call1_call0_v173 : Ref sig .tc := ⟨.hbm, 499, rfl⟩
abbrev main_call1_call0_c_44 : Ref sig .tc := ⟨.hbm, 500, rfl⟩
abbrev main_call1_call0_v174 : Ref sig .tc := ⟨.hbm, 501, rfl⟩
abbrev main_call1_v19_1 : Ref sig .tc := ⟨.hbm, 502, rfl⟩
abbrev main_call1_v20 : Ref sig .tc := ⟨.hbm, 503, rfl⟩
abbrev main_call1_c_2 : Ref sig .tc := ⟨.hbm, 504, rfl⟩
abbrev main_call1_v21 : Ref sig .tc := ⟨.hbm, 505, rfl⟩
abbrev main_call1_v22 : Ref sig .tc := ⟨.hbm, 506, rfl⟩
abbrev main_call1_c_3 : Ref sig .tc := ⟨.hbm, 507, rfl⟩
abbrev main_call1_v23 : Ref sig .tc := ⟨.hbm, 508, rfl⟩
abbrev main_call1_v24 : Ref sig .tc := ⟨.hbm, 509, rfl⟩
abbrev main_call1_v25 : Ref sig .tc := ⟨.hbm, 510, rfl⟩
abbrev main_call1_cst : Ref sig .tc := ⟨.hbm, 511, rfl⟩
abbrev main_call1_v26 : Ref sig .tc := ⟨.hbm, 512, rfl⟩
abbrev main_call1_v27 : Ref sig .tc := ⟨.hbm, 513, rfl⟩
abbrev main_call1_v28 : Ref sig .tc := ⟨.hbm, 514, rfl⟩
abbrev main_call1_v29 : Ref sig .tc := ⟨.hbm, 515, rfl⟩
abbrev main_call1_v30 : Ref sig .tc := ⟨.hbm, 516, rfl⟩
abbrev main_call1_v31 : Ref sig .tc := ⟨.hbm, 517, rfl⟩
abbrev main_call1_v32 : Ref sig .tc := ⟨.hbm, 518, rfl⟩
abbrev main_call1_v33 : Ref sig .tc := ⟨.hbm, 519, rfl⟩
abbrev main_v13 : Ref sig .tc := ⟨.hbm, 520, rfl⟩
abbrev main_v14 : Ref sig .tc := ⟨.hbm, 521, rfl⟩
abbrev main_v15 : Ref sig .tc := ⟨.hbm, 522, rfl⟩
abbrev main_v16 : Ref sig .tc := ⟨.hbm, 523, rfl⟩
abbrev main_v17 : Ref sig .tc := ⟨.hbm, 524, rfl⟩
abbrev main_v18 : Ref sig .tc := ⟨.hbm, 525, rfl⟩
abbrev main_v19 : Ref sig .tc := ⟨.hbm, 526, rfl⟩
abbrev main_v20 : Ref sig .tc := ⟨.hbm, 527, rfl⟩
abbrev main_v21 : Ref sig .tc := ⟨.hbm, 528, rfl⟩
abbrev main_cst_6 : Ref sig .tc := ⟨.hbm, 529, rfl⟩
abbrev main_v22 : Ref sig .tc := ⟨.hbm, 530, rfl⟩
abbrev main_v23 : Ref sig .tc := ⟨.hbm, 531, rfl⟩
abbrev main_cst_7 : Ref sig .tc := ⟨.hbm, 532, rfl⟩
abbrev main_v24 : Ref sig .tc := ⟨.hbm, 533, rfl⟩
abbrev main_v25 : Ref sig .tc := ⟨.hbm, 534, rfl⟩
abbrev main_v26 : Ref sig .tc := ⟨.hbm, 535, rfl⟩
abbrev main_v27 : Ref sig .tc := ⟨.hbm, 536, rfl⟩
abbrev main_v28 : Ref sig .tc := ⟨.hbm, 537, rfl⟩
abbrev main_v29 : Ref sig .tc := ⟨.hbm, 538, rfl⟩
abbrev main_cst_8 : Ref sig .tc := ⟨.hbm, 539, rfl⟩
abbrev main_v30 : Ref sig .tc := ⟨.hbm, 540, rfl⟩
abbrev main_cst_9 : Ref sig .tc := ⟨.hbm, 541, rfl⟩
abbrev main_v31 : Ref sig .tc := ⟨.hbm, 542, rfl⟩
abbrev main_cst_10 : Ref sig .tc := ⟨.hbm, 543, rfl⟩
abbrev main_v32 : Ref sig .tc := ⟨.hbm, 544, rfl⟩
abbrev main_v33 : Ref sig .tc := ⟨.hbm, 545, rfl⟩
abbrev main_cst_11 : Ref sig .tc := ⟨.hbm, 546, rfl⟩
abbrev main_v34 : Ref sig .tc := ⟨.hbm, 547, rfl⟩
abbrev main_v35 : Ref sig .tc := ⟨.hbm, 548, rfl⟩
abbrev main_cst_12 : Ref sig .tc := ⟨.hbm, 549, rfl⟩
abbrev main_v36 : Ref sig .tc := ⟨.hbm, 550, rfl⟩
abbrev main_v37 : Ref sig .tc := ⟨.hbm, 551, rfl⟩
abbrev main_v38 : Ref sig .tc := ⟨.hbm, 552, rfl⟩
abbrev main_v39 : Ref sig .tc := ⟨.hbm, 553, rfl⟩
abbrev main_cst_13 : Ref sig .tc := ⟨.hbm, 554, rfl⟩
abbrev main_v40 : Ref sig .tc := ⟨.hbm, 555, rfl⟩
abbrev main_cst_14 : Ref sig .tc := ⟨.hbm, 556, rfl⟩
abbrev main_v41 : Ref sig .tc := ⟨.hbm, 557, rfl⟩
abbrev main_cst_15 : Ref sig .tc := ⟨.hbm, 558, rfl⟩
abbrev main_v42 : Ref sig .tc := ⟨.hbm, 559, rfl⟩
abbrev main_v43 : Ref sig .tc := ⟨.hbm, 560, rfl⟩
abbrev main_v44 : Ref sig .tc := ⟨.hbm, 561, rfl⟩

abbrev nD : Nat := 1
abbrev τ : Topo := Topo.v7x

variable {F : FTy → Type} [FloatOps F]
-- ==== Proof.ReferenceOps.lean ====
/- The reference program as a straight line of operations: one list per function it calls, each read off the function's body, and
   the list of the whole program. -/
module

public import proofs.«01_k».proof.Proof.Gen.ReferenceIdeal
public import Idealize.ShloMosaic.Lib.Claim
public import Idealize.ShloMosaic.Lib.StableHlo.RunRead

@[expose] public section

-- a reference's type is looked up in the signature's long table
set_option maxRecDepth 100000

noncomputable section

namespace Cert.ReferenceIdeal

open Idealize.ShloMosaic Idealize.ShloMosaic.TcCoe Idealize.ShloMosaic.Tactic Idealize.ShloMosaic.StableHlo
open Idealize.SL.Sem (Prog)

variable [Facts] {F : FTy → Type} [FloatOps F]

/-- The programs this file reads: a TensorCore program of the reference's signature. -/
abbrev Line (F : FTy → Type) [FloatOps F] : Type 1 :=
  Prog (TpuEff nD τ sig (Elt F) (Pipeline.Sig Λ₀ (Fin 0) fun p => (pcfgs (F := F) p).Adm) .tc) PUnit

/-- A list of the reference's operations. -/
abbrev Ops (F : FTy → Type) [FloatOps F] : Type _ := List (HloOp τ sig (Elt F))

/-- A program is the list `ops` run in order, of operations on the TensorCore's buffers, each of which determines its results. -/
structure IsLine (p : Line F) (ops : Ops F) : Prop where
  seq : IsSeq p ops
  sub : ∀ op ∈ ops, op.bufs ⊆ tcRefs τ sig
  fresh : ∀ op ∈ ops, op.fresh = ∅

omit [Facts] in
/-- The program that does nothing is the empty list. -/
theorem IsLine.nil : IsLine (pure ⟨⟩ : Line F) [] := ⟨IsSeq.nil, by simp, by simp⟩

omit [Facts] in
/-- A program that starts with an operation is that operation and the list of the rest. -/
theorem IsLine.cons {op : HloOp τ sig (Elt F)} {k : Line F} {ops : Ops F} (h : IsLine k ops)
    (hs : op.bufs ⊆ tcRefs τ sig) (hf : op.fresh = ∅) :
    IsLine ((hlo rfl op fun _ => .ret (⟨⟩ : PUnit)) >>= fun _ => k) (op :: ops) :=
  ⟨IsSeq.cons h.seq, by simpa using ⟨hs, h.sub⟩, by simpa using ⟨hf, h.fresh⟩⟩

omit [Facts] in
/-- A program of one operation is the list of that operation. -/
theorem IsLine.last {op : HloOp τ sig (Elt F)} (hs : op.bufs ⊆ tcRefs τ sig) (hf : op.fresh = ∅) :
    IsLine (hlo rfl op fun _ => .ret (⟨⟩ : PUnit) : Line F) [op] :=
  ⟨rfl, by simpa using hs, by simpa using hf⟩

omit [Facts] in
/-- A program followed by another is the one list followed by the other. -/
theorem IsLine.append {p q : Line F} {l₁ l₂ : Ops F} (hp : IsLine p l₁) (hq : IsLine q l₂) :
    IsLine (p >>= fun _ => q) (l₁ ++ l₂) := by
  refine ⟨?_, ?_, ?_⟩
  · have h₁ := hp.seq
    have h₂ := hq.seq
    unfold IsSeq at h₁ h₂ ⊢
    rw [seq_append, h₁, h₂]
  · intro op h
    rcases List.mem_append.mp h with h | h
    exacts [hp.sub op h, hq.sub op h]
  · intro op h
    rcases List.mem_append.mp h with h | h
    exacts [hp.fresh op h, hq.fresh op h]

section OneCounter
variable (a b : TRef sig ⟨S_, .i32⟩) (x y : TRef sig ⟨S1, .i32⟩) (φ : fn_threefry2x32.Bufs)
/-- The operations of the generator's body on one counter: its first sixty, -/
def onePart0 : {ops : Ops F // IsLine (fn_threefry2x32.body_part0 (F := F) a b x y φ) ops} := by
  apply Subtype.mk
  unfold fn_threefry2x32.body_part0
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- its second sixty, -/
def onePart1 : {ops : Ops F // IsLine (fn_threefry2x32.body_part1 (F := F) a b x y φ) ops} := by
  apply Subtype.mk
  unfold fn_threefry2x32.body_part1
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- its third sixty, -/
def onePart2 : {ops : Ops F // IsLine (fn_threefry2x32.body_part2 (F := F) a b x y φ) ops} := by
  apply Subtype.mk
  unfold fn_threefry2x32.body_part2
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- its last. -/
def onePart3 : {ops : Ops F // IsLine (fn_threefry2x32.body_part3 (F := F) a b x y φ) ops} := by
  apply Subtype.mk
  unfold fn_threefry2x32.body_part3
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- The operations of the whole body. -/
def oneOps : {ops : Ops F // IsLine (fn_threefry2x32.body (F := F) a b x y φ) ops} :=
  ⟨(onePart0 a b x y φ).1 ++ ((onePart1 a b x y φ).1 ++ ((onePart2 a b x y φ).1 ++ (onePart3 a b x y φ).1)),
    IsLine.append (onePart0 a b x y φ).2 (IsLine.append (onePart1 a b x y φ).2 (IsLine.append (onePart2 a b x y φ).2 (onePart3 a b x y φ).2))⟩
end OneCounter

section AllCounters
variable (a b : TRef sig ⟨S_, .i32⟩) (x y : TRef sig ⟨S512x2048, .i32⟩) (φ : fn_threefry2x32_0.Bufs)
/-- The operations of the generator's body on an array of counters: its first sixty, -/
def allPart0 : {ops : Ops F // IsLine (fn_threefry2x32_0.body_part0 (F := F) a b x y φ) ops} := by
  apply Subtype.mk
  unfold fn_threefry2x32_0.body_part0
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- its second sixty, -/
def allPart1 : {ops : Ops F // IsLine (fn_threefry2x32_0.body_part1 (F := F) a b x y φ) ops} := by
  apply Subtype.mk
  unfold fn_threefry2x32_0.body_part1
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- its third sixty, -/
def allPart2 : {ops : Ops F // IsLine (fn_threefry2x32_0.body_part2 (F := F) a b x y φ) ops} := by
  apply Subtype.mk
  unfold fn_threefry2x32_0.body_part2
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- its last. -/
def allPart3 : {ops : Ops F // IsLine (fn_threefry2x32_0.body_part3 (F := F) a b x y φ) ops} := by
  apply Subtype.mk
  unfold fn_threefry2x32_0.body_part3
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))
/-- The operations of the whole body. -/
def allOps : {ops : Ops F // IsLine (fn_threefry2x32_0.body (F := F) a b x y φ) ops} :=
  ⟨(allPart0 a b x y φ).1 ++ ((allPart1 a b x y φ).1 ++ ((allPart2 a b x y φ).1 ++ (allPart3 a b x y φ).1)),
    IsLine.append (allPart0 a b x y φ).2 (IsLine.append (allPart1 a b x y φ).2 (IsLine.append (allPart2 a b x y φ).2 (allPart3 a b x y φ).2))⟩
end AllCounters

/-- The operations that draw the key. -/
def foldOps (a : TRef sig ⟨S2, .i32⟩) (b : TRef sig ⟨S_, .i32⟩) (φ : fn_threefry_fold_in.Bufs) :
    {ops : Ops F // IsLine (fn_threefry_fold_in.body (F := F) a b φ) ops} := by
  apply Subtype.mk
  unfold fn_threefry_fold_in.body
  repeat (first | exact IsLine.nil | ((apply IsLine.cons); (case hs => first | with_reducible exact binary_bufs_sub .. | with_reducible exact nullary_bufs_sub .. | with_reducible exact unary_bufs_sub .. | with_reducible exact reshape_bufs_sub ..); (case hf => rfl)) | refine IsLine.append (oneOps _ _ _ _ _).2 ?_)

/-- The operations that draw the uniform numbers. -/
def uniformOps (a : TRef sig ⟨S2, .i32⟩) (b c : TRef sig ⟨S_, .f32⟩) (φ : fn_uniform.Bufs) :
    {ops : Ops F // IsLine (fn_uniform.body (F := F) a b c φ) ops} := by
  apply Subtype.mk
  unfold fn_uniform.body
  repeat (first | exact IsLine.nil | ((apply IsLine.cons); (case hs => first | with_reducible exact binary_bufs_sub .. | with_reducible exact nullary_bufs_sub .. | with_reducible exact unary_bufs_sub .. | with_reducible exact reshape_bufs_sub ..); (case hf => rfl)) | refine IsLine.append (allOps _ _ _ _ _).2 ?_)

/-- The operations of the program's first part, -/
def mainPart0 (d : Dev nD) : {ops : Ops F // IsLine (main_part0 (F := F) d) ops} := by
  apply Subtype.mk
  unfold main_part0
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)) | refine IsLine.append (foldOps _ _ _).2 ?_ | refine IsLine.append (uniformOps _ _ _ _).2 ?_)

/-- and of its second. -/
def mainPart1 (d : Dev nD) : {ops : Ops F // IsLine (main_part1 (F := F) d) ops} := by
  apply Subtype.mk
  unfold main_part1
  repeat (first | exact IsLine.nil | exact IsLine.last (by first | with_reducible exact binary_bufs_sub .. | with_reducible exact nullary_bufs_sub .. | with_reducible exact unary_bufs_sub .. | with_reducible exact reshape_bufs_sub ..) (by rfl) | ((apply IsLine.cons); (case hs => first | with_reducible exact binary_bufs_sub .. | with_reducible exact nullary_bufs_sub .. | with_reducible exact unary_bufs_sub .. | with_reducible exact reshape_bufs_sub ..); (case hf => rfl)))

/-- The operations of the whole reference. -/
def refOps (d : Dev nD) : Ops F := (mainPart0 d).1 ++ (mainPart1 d).1

/-- The reference is its operations one after another. -/
theorem main_isLine (d : Dev nD) : IsLine (main (F := F) d) (refOps d) := by
  unfold main; exact IsLine.append (mainPart0 d).2 (mainPart1 d).2

end Cert.ReferenceIdeal
-- ==== Proof.ReferenceRun.lean ====
module

public import proofs.«01_k».proof.Proof.ReferenceOps
public import Idealize.ShloMosaic.Lib.StableHlo.RunRead
public import Idealize.ShloMosaic.Lib.Quiescent
public import Idealize.ShloMosaic.Lib.Claim

@[expose] public section

noncomputable section

/-! The run of the reference: where it ends, and that it leaves its arguments alone. -/

namespace Cert.ReferenceIdeal

open Idealize.ShloMosaic Idealize.ShloMosaic.TcCoe Idealize.ShloMosaic.Tactic Idealize.ShloMosaic.StableHlo
open Idealize.SL.Sem

variable [Facts] {F : FTy → Type} [FloatOps F]

set_option maxRecDepth 100000

/-- No operation of the reference writes its first argument, -/
theorem keeps_arg0 (d : Dev nD) (V : Valuation τ sig (Elt F)) :
    after (refOps (F := F) d) V (Proc.devRef .tc main_arg0) = V (Proc.devRef .tc main_arg0) := by
  after_reads_simp

/-- nor its second, -/
theorem keeps_arg1 (d : Dev nD) (V : Valuation τ sig (Elt F)) :
    after (refOps (F := F) d) V (Proc.devRef .tc main_arg1) = V (Proc.devRef .tc main_arg1) := by
  after_reads_simp

/-- nor its third. -/
theorem keeps_arg2 (d : Dev nD) (V : Valuation τ sig (Elt F)) :
    after (refOps (F := F) d) V (Proc.devRef .tc main_arg2) = V (Proc.devRef .tc main_arg2) := by
  after_reads_simp

/-- Every run of the reference ends, with each buffer holding what the operations in order leave there. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) =
        after (refOps d) (launchContents m d) (Proc.devRef .tc b) :=
  run_seq (by decide) (by decide) defs main refOps (fun d => (main_isLine d).seq)
    (fun d => List.forall_iff_forall_mem.mpr (main_isLine d).sub) m ρ (fun d => (main_isLine d).fresh)

/-- Every run of the reference ends with its arguments as they were and no semaphore counter raised. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 := by
  refine θ_run_mono (run_main m ρ) fun r h => ⟨fun c => ⟨?_, ?_, ?_⟩, sem_eq_zero_of_no_sems (by decide) _⟩
  · rw [h, keeps_arg0]
  · rw [h, keeps_arg1]
  · rw [h, keeps_arg2]

end Cert.ReferenceIdeal
-- ==== Proof.ReferenceEnergy.lean ====
module

public import proofs.«01_k».proof.Proof.ReferenceRun

@[expose] public section

set_option maxRecDepth 100000

noncomputable section

/-! The reference's result, as its own operations over the uniform numbers and the arguments. -/

namespace Cert.ReferenceIdeal

open Idealize.ShloMosaic Idealize.ShloMosaic.TcCoe Idealize.ShloMosaic.Tactic Idealize.ShloMosaic.StableHlo
open Facts₀ Facts

variable [Facts] {F : FTy → Type} [FloatOps F]

/-- The probabilities of the angles `A`. -/
def probs (A : FVec F S2048 .f32) : FVec F S2048 .f32 :=
  Host.divf (addf (broadcastInDim S2048 ![] bcast_S_S2048 (constant S_ .f32 0x3F800000#32)) (Host.cos A))
    (broadcastInDim S2048 ![] bcast_S_S2048 (constant S_ .f32 0x40000000#32))

/-- One where a number of `u` is below its column's probability, zero elsewhere. -/
def flips (u : FVec F S512x2048 .f32) (A : FVec F S2048 .f32) : FVec F S512x2048 .f32 :=
  uitofp .f32 (cmpf .olt u (broadcastInDim S512x2048 ![0, 1] bcast_S1x2048_S512x2048_0_1
    (broadcastInDim S1x2048 ![1] bcast_S2048_S1x2048_1 (probs A))))

/-- The samples four times over. -/
def tiled (X : FVec F S128x2048 .f32) : FVec F S512x2048 .f32 :=
  shapeCast S512x2048 (broadcastInDim S4x128x1x2048 ![0, 1, 2, 3] bcast_S1x128x1x2048_S4x128x1x2048_0_1_2_3
    (shapeCast S1x128x1x2048 X shapeCasts_S128x2048_S1x128x1x2048)) shapeCasts_S4x128x1x2048_S512x2048

/-- The samples where the flips are one, one less the samples elsewhere. -/
def flipped (u : FVec F S512x2048 .f32) (X : FVec F S128x2048 .f32) (A : FVec F S2048 .f32) : FVec F S512x2048 .f32 :=
  addf (mulf (flips u A) (tiled X))
    (mulf (subf (broadcastInDim S512x2048 ![] bcast_S_S512x2048 (constant S_ .f32 0x3F800000#32)) (flips u A))
      (subf (broadcastInDim S512x2048 ![] bcast_S_S512x2048 (constant S_ .f32 0x3F800000#32)) (tiled X)))

/-- The mean over the rows `f` of the quadratic form `Q`. -/
def meanForm (f : FVec F S512x2048 .f32) (Q : FVec F S2048x2048 .f32) : FVec F S_ .f32 :=
  Host.divf (Host.reduceAdd (Host.dotGeneral dot_S512x2048_S2048x512_S512_1_0_n_n_0_1 none f
      (Host.dotGeneral dot_S2048x2048_S512x2048_S2048x512_0_1_1_0_n_n none Q f))
      (constant S_ .f32 0x00000000#32) reducesTo_S512_S_d0 h_S_)
    (constant S_ .f32 0x44000000#32)

/-- The probabilities, each with the small number added. -/
def lifted (A : FVec F S2048 .f32) : FVec F S2048 .f32 :=
  addf (probs A) (broadcastInDim S2048 ![] bcast_S_S2048 (constant S_ .f32 0x283424DC#32))

/-- The entropy penalty. -/
def penalty (A : FVec F S2048 .f32) : FVec F S_ .f32 :=
  Host.divf (mulf (constant S_ .f32 0x3DCCCCCD#32)
      (Host.reduceAdd (mulf (lifted A) (Host.log (Host.divf
        (broadcastInDim S2048 ![] bcast_S_S2048 (constant S_ .f32 0x3F800000#32)) (lifted A))))
        (constant S_ .f32 0x00000000#32) reducesTo_S2048_S_d0 h_S_))
    (constant S_ .f32 0x443C5AB2#32)

/-- The result. -/
def result (u : FVec F S512x2048 .f32) (X : FVec F S128x2048 .f32) (A : FVec F S2048 .f32) (Q : FVec F S2048x2048 .f32) :
    FVec F S1 .f32 :=
  broadcastInDim S1 ![] bcast_S_S1 (addf (meanForm (flipped u X A) Q) (penalty A))

/-- The operations are those that lead to the uniform numbers, then the others. -/
theorem refOps_split (d : Dev nD) (V : Valuation τ sig (Elt F)) :
    after (refOps (F := F) d) V = after ((refOps d).drop 518) (after ((refOps d).take 518) V) := by
  rw [← after_append, List.take_append_drop]

/-- The operations after the uniform numbers leave them, -/
theorem late_uniform (d : Dev nD) (V : Valuation τ sig (Elt F)) :
    after ((refOps (F := F) d).drop 518) V (Proc.devRef .tc main_v13) = V (Proc.devRef .tc main_v13) := by
  after_reads_simp

/-- and compute the result from them, the probabilities and two arguments. -/
theorem late_read (d : Dev nD) (V : Valuation τ sig (Elt F)) (A : FVec F S2048 .f32)
    (hA : V (Proc.devRef .tc main_v4) = probs A) :
    after ((refOps (F := F) d).drop 518) V (Proc.devRef .tc main_v44) =
      result (V (Proc.devRef .tc main_v13)) (V (Proc.devRef .tc main_arg0)) A (V (Proc.devRef .tc main_arg2)) := by
  after_reads_simp
  rw [hA]
  rfl

/-- The earlier operations leave the first argument, -/
theorem early_arg0 (d : Dev nD) (V : Valuation τ sig (Elt F)) :
    after ((refOps (F := F) d).take 518) V (Proc.devRef .tc main_arg0) = V (Proc.devRef .tc main_arg0) := by
  after_reads_simp

/-- and the third, -/
theorem early_arg2 (d : Dev nD) (V : Valuation τ sig (Elt F)) :
    after ((refOps (F := F) d).take 518) V (Proc.devRef .tc main_arg2) = V (Proc.devRef .tc main_arg2) := by
  after_reads_simp

/-- and compute the probabilities from the second. -/
theorem early_probs (d : Dev nD) (V : Valuation τ sig (Elt F)) :
    after ((refOps (F := F) d).take 518) V (Proc.devRef .tc main_v4) = probs (V (Proc.devRef .tc main_arg1)) := by
  after_reads_simp
  rfl

/-- The reference's result over its uniform numbers and its arguments. -/
theorem result_read (d : Dev nD) (V : Valuation τ sig (Elt F)) :
    after (refOps (F := F) d) V (Proc.devRef .tc main_v44) =
      result (after (refOps (F := F) d) V (Proc.devRef .tc main_v13)) (V (Proc.devRef .tc main_arg0))
        (V (Proc.devRef .tc main_arg1)) (V (Proc.devRef .tc main_arg2)) := by
  rw [refOps_split, late_uniform, late_read d _ _ (early_probs d V), early_arg0, early_arg2]

end Cert.ReferenceIdeal
-- ==== Proof.Payloads.lean ====
module

public import proofs.«01_k».proof.Proof.Gen.KernelIdeal.Frame
public import proofs.«01_k».proof.Proof.ReferenceEnergy
public import Idealize.ShloMosaic.Lib.Pipeline.ValueKit
public import Idealize.ShloMosaic.Lib.Pointwise

@[expose] public section

set_option maxRecDepth 16384

noncomputable section

/-! The values the kernel's body stores, over the extended reals, in the reference's terms. -/

namespace Cert.Energy

open Idealize.ShloMosaic Idealize.ShloMosaic.TcCoe Idealize.ShloMosaic.Tactic
open Cert.KernelIdeal.Gen Cert.KernelIdeal
open Cert.ReferenceIdeal (flipped flips tiled probs meanForm penalty lifted)

variable [Cert.ReferenceIdeal.Facts]

/-- A truth value is the same number read as a signed word and as an unsigned bit. -/
theorem truth (p : Bool) :
    (FloatOps.sitofp FTy.f32 (BitVec.setWidth 32 (BitVec.ofBool p)) : Ideal .f32) = FloatOps.uitofp FTy.f32 (BitVec.ofBool p) := by
  cases p <;> simp [FloatOps.sitofp, FloatOps.uitofp]

/-- The kernel's flipped samples are the reference's. -/
theorem pay2_at (a : FVec Ideal S1x2048 .f32) (X : FVec Ideal S128x2048 .f32) (u : FVec Ideal S512x2048 .f32)
    (A : FVec Ideal Cert.ReferenceIdeal.S2048 .f32) (ha : a = fun i => A (ix1 (i 1))) (i : S512x2048.Idx) :
    k0_pay2 (F := Ideal) a X u i = flipped u X A i := by
  subst ha
  pointwise [k0_pay2, k0_pay1, flipped, flips, tiled, probs, truth]
  blk_point []

/-- The kernel's zero. -/
theorem pay3_at (i : S1x1.Idx) : k0_pay3 (F := Ideal) i = 0 := by
  pointwise [k0_pay3]

/-- What the body adds at a point. -/
theorem pay4_at (f : FVec Ideal S512x2048 .bf16) (q : FVec Ideal S2048x512 .f32) (g : FVec Ideal S512x512 .bf16)
    (o : FVec Ideal S1x1 .f32) (i : S1x1.Idx) :
    k0_pay4 (F := Ideal) f q g o i =
      o i + ∑ b : Fin 512, ∑ k : Fin 512, g (ix2 b k) * ∑ l : Fin 2048, f (ix2 b l) * q (ix2 l k) := by
  pointwise [k0_pay4]

/-- What the last point makes of the sum: the mean and the reference's penalty. -/
theorem pay5_at (a : FVec Ideal S1x2048 .f32) (o : FVec Ideal S1x1 .f32) (A : FVec Ideal Cert.ReferenceIdeal.S2048 .f32)
    (ha : a = fun i => A (ix1 (i 1))) (i : S1x1.Idx) (j : Cert.ReferenceIdeal.S_.Idx) :
    k0_pay5 (F := Ideal) a o i = Ideal.div (o i) (Ideal.ofBits .f32 0x44000000#32) + penalty (F := Ideal) A j := by
  subst ha
  pointwise [k0_pay5, k0_pay1, penalty, lifted, probs]
  simp

/-- The part of the quadratic form, summed over the rows, that column block `s` holds. -/
def part (f : FVec Ideal S512x2048 .f32) (Q : FVec Ideal Cert.ReferenceIdeal.S2048x2048 .f32) (s : Fin 4) : EReal :=
  ∑ b : Fin 512, ∑ k : Fin 512, (f (ix2 b ⟨s.val * 512 + k.val, by omega⟩) : EReal) *
    ∑ l : Fin 2048, (f (ix2 b l) : EReal) * Q (ix2 l ⟨s.val * 512 + k.val, by omega⟩)

/-- The mean of the quadratic form is the sum of the four parts over the number of rows. -/
theorem meanForm_parts (f : FVec Ideal S512x2048 .f32) (Q : FVec Ideal Cert.ReferenceIdeal.S2048x2048 .f32)
    (j : Cert.ReferenceIdeal.S_.Idx) :
    meanForm (F := Ideal) f Q j = Ideal.div (∑ s : Fin 4, part f Q s) (Ideal.ofBits .f32 0x44000000#32) := by
  pointwise [meanForm]
  congr 1
  unfold part
  symm
  refine Eq.trans Finset.sum_comm ?_
  refine Fin.sum_fin_congr fun b => ?_
  refine Fin.sum_mul_add_congr fun s k hl => ?_
  congr 1
  exact Fin.sum_fin_congr fun l => mul_comm _ _

/-- The reference's result over the four parts. -/
theorem result_at (u : FVec Ideal S512x2048 .f32) (X : FVec Ideal S128x2048 .f32)
    (A : FVec Ideal Cert.ReferenceIdeal.S2048 .f32) (Q : FVec Ideal Cert.ReferenceIdeal.S2048x2048 .f32)
    (i : Cert.ReferenceIdeal.S1.Idx) (j : Cert.ReferenceIdeal.S_.Idx) :
    Cert.ReferenceIdeal.result (F := Ideal) u X A Q i =
      Ideal.div (∑ s : Fin 4, part (flipped u X A) Q s) (Ideal.ofBits .f32 0x44000000#32) + penalty (F := Ideal) A j := by
  rw [← meanForm_parts _ _ j]
  pointwise [Cert.ReferenceIdeal.result]
  congr!

end Cert.Energy
-- ==== Proof.Words.lean ====
/- The random words: the twenty rounds of the Threefry generator on two 32-bit words, in the order both programs compute them. -/
module

public import Idealize.ShloMosaic.PureOps

@[expose] public section

namespace Cert.Words

open Idealize.ShloMosaic

/-- A 32-bit word. -/
abbrev W : Type := BitVec 32

/-- A word rotated left: shifted left by `d`, or-ed with itself shifted right by `e` (`d + e = 32` in every use). -/
def rot (d e x : W) : W := IntOp.ori (IntOp.shli .host x d) (IntOp.shrui .host x e)

/-- One round: the first word gains the second, the second is rotated and combined by `X` (an exclusive or, its operands in
    either order) with the new first. -/
def mix (X : W → W → W) (d e : W) (s : W × W) : W × W :=
  (IntOp.addi s.1 s.2, X (IntOp.addi s.1 s.2) (rot d e s.2))

/-- The four rounds of an odd group. -/
def groupA (X : W → W → W) (s : W × W) : W × W :=
  mix X 6#32 26#32 (mix X 26#32 6#32 (mix X 15#32 17#32 (mix X 13#32 19#32 s)))

/-- The four rounds of an even group. -/
def groupB (X : W → W → W) (s : W × W) : W × W :=
  mix X 24#32 8#32 (mix X 16#32 16#32 (mix X 29#32 3#32 (mix X 17#32 15#32 s)))

/-- The key words added after a group, with the group's number. -/
def inject (a b n : W) (s : W × W) : W × W := (IntOp.addi s.1 a, IntOp.addi (IntOp.addi s.2 b) n)

/-- The twenty rounds, the three key words given. -/
def rounds (X : W → W → W) (k0 k1 k2 : W) (s : W × W) : W × W :=
  inject k2 k0 5#32 (groupA X (inject k1 k2 4#32 (groupB X (inject k0 k1 3#32 (groupA X
    (inject k2 k0 2#32 (groupB X (inject k1 k2 1#32 (groupA X (IntOp.addi s.1 k0, IntOp.addi s.2 k1))))))))))

/-- The exclusive or with its operands exchanged. -/
def xor' (a b : W) : W := IntOp.xori b a

theorem xor'_eq : xor' = IntOp.xori := by
  funext a b; exact BitVec.xor_comm b a

/-- The third key word. -/
def key2 (k0 k1 : W) : W := IntOp.xori (IntOp.xori k0 k1) 466688986#32

/-- The generator on a two-word key and a two-word counter. -/
def threefry (k0 k1 x0 x1 : W) : W × W := rounds IntOp.xori k0 k1 (key2 k0 k1) (x0, x1)

theorem mix_pair (X : W → W → W) (d e a b : W) :
    mix X d e (a, b) = (IntOp.addi a b, X (IntOp.addi a b) (rot d e b)) := rfl

theorem inject_pair (k l n a b : W) : inject k l n (a, b) = (IntOp.addi a k, IntOp.addi (IntOp.addi b l) n) := rfl

/-- The key both programs draw with: the generator at key (0, 1) and counter (0, 123). -/
theorem threefry_key : threefry 0#32 1#32 0#32 123#32 = (3573174817#32, 2367111901#32) := by
  simp [threefry, rounds, groupA, groupB, mix_pair, inject_pair, key2, rot, IntOp.addi, IntOp.ori, IntOp.xori,
    IntOp.shli, IntOp.shrui]

/-- Its third key word. -/
theorem key2_key : key2 3573174817#32 2367111901#32 = 1111231270#32 := by decide +kernel

/-- The random word at one counter word: the two outputs of the generator, under the fixed key, exclusive-or-ed. -/
def bits (n : W) : W :=
  IntOp.xori (threefry 3573174817#32 2367111901#32 0#32 n).1 (threefry 3573174817#32 2367111901#32 0#32 n).2

/-- The word whose pattern is a number between one and two. -/
def pattern (n : W) : W := IntOp.ori (IntOp.shrui .host (bits n) 9#32) 1065353216#32

end Cert.Words
-- ==== Proof.KernelUniform.lean ====
module

public import proofs.«01_k».proof.Proof.Gen.KernelIdeal.Frame
public import proofs.«01_k».proof.Proof.Words
public import Idealize.ShloMosaic.Lib.StableHlo.RunRead

@[expose] public section

noncomputable section

/-! What the kernel's host code leaves for its region: the uniform numbers and the angles. -/

namespace Cert.KernelIdeal.Gen

open Idealize.ShloMosaic Idealize.ShloMosaic.TcCoe Idealize.ShloMosaic.Tactic Idealize.ShloMosaic.StableHlo
open Cert.Words

variable {F : FTy → Type} [FloatOps F]

set_option maxHeartbeats 40000000 in
set_option maxRecDepth 100000 in
/-- The numbers as one row: number `n` is the pattern of the counter word `n`, less one. -/
theorem uniform_row (V : Valuation τ sig (Elt F)) :
    after (hostOps0 (F := F)) V (Proc.devRef .tc main_v183) = fun i : S1048576.Idx =>
      FloatOps.subf (FloatOps.ofBits .f32 (pattern (BitVec.ofNat 32 (i 0).val)) : F .f32) (FloatOps.ofBits .f32 0x3F800000#32) := by
  have hx : ∀ n, pattern n = IntOp.ori (IntOp.shrui .host (IntOp.xori
      (rounds xor' 3573174817#32 2367111901#32 1111231270#32 (0#32, n)).1
      (rounds xor' 3573174817#32 2367111901#32 1111231270#32 (0#32, n)).2) 9#32) 1065353216#32 := by
    intro n; rw [xor'_eq, ← key2_key]; rfl
  simp only [hx]
  after_reads_simp
  funext i
  simp only [rounds, inject, groupA, groupB, mix, rot, xor', addi, xori, ori, Host.shli, Host.shrui, broadcastInDim, constantI, iotaInDim,
    subf, bitcastToFloat, constant]

set_option maxHeartbeats 40000000 in
set_option maxRecDepth 100000 in
/-- The same numbers as the region's array, row after row. -/
theorem uniform_array (V : Valuation τ sig (Elt F)) :
    after (hostOps0 (F := F)) V (Proc.devRef .tc main_v184) =
      shapeCast S512x2048 (after (hostOps0 (F := F)) V (Proc.devRef .tc main_v183)) shapeCasts_S1048576_S512x2048 := by
  after_reads_simp
  rfl

set_option maxRecDepth 100000 in
/-- The angles as one row. -/
theorem angles_row (V : Valuation τ sig (Elt F)) :
    after (hostOps0 (F := F)) V (Proc.devRef .tc main_v185) =
      shapeCast S1x2048 (V (Proc.devRef .tc main_arg1)) shapeCasts_S2048_S1x2048 := by
  after_reads_simp
  rfl

end Cert.KernelIdeal.Gen
-- ==== Proof.Accumulate.lean ====
module

public import proofs.«01_k».proof.Proof.Payloads
public import proofs.«01_k».proof.Proof.KernelUniform
public import Idealize.ShloMosaic.Lib.Claim
public import Idealize.ShloMosaic.Lib.Pipeline.ReadBack

@[expose] public section

set_option maxRecDepth 16384

noncomputable section

/-! The kernel's result: the four parts summed, over the number of rows, with the penalty. -/

namespace Cert.KernelIdeal.Gen

open Idealize.ShloMosaic Idealize.ShloMosaic.TcCoe Idealize.ShloMosaic.Tactic
open Cert.ReferenceIdeal (flipped penalty)
open Cert.Energy

variable [Cert.ReferenceIdeal.Facts]
variable (m : (ℓ : Loc nD τ sig) → Buf (Elt Ideal) ℓ) (c : Dev nD)

/-- The samples. -/
def samples : FVec Ideal S128x2048 .f32 := m ((c : Thread nD τ).loc main_arg0)

/-- The angles. -/
def angles : FVec Ideal S2048 .f32 := m ((c : Thread nD τ).loc main_arg1)

/-- The matrix of the quadratic form. -/
def form : FVec Ideal S2048x2048 .f32 := m ((c : Thread nD τ).loc main_arg2)

/-- The uniform numbers. -/
def uniform : FVec Ideal S512x2048 .f32 := V m c main_v184

/-- The samples flipped. -/
def turned : FVec Ideal S512x2048 .f32 := flipped (uniform m c) (samples m c) (angles m c)

/-- The block each window reads at a point. -/
theorem idx : ∀ t : Fin cfg0.N, win0_0.index t = ![0, 0] ∧ win0_1.index t = ![0, 0] ∧ win0_2.index t = ![0, 0] ∧
    win0_3.index t = ![0, t.val] ∧ win0_4.index t = ![0, 0] :=
  (by decide +kernel : ∀ t : Fin grid0.N, _)

/-- The column the body reads from at a point. -/
theorem column : ∀ t : Fin cfg0.N, k0_off1 (grid0.coords t) = ![0, t.val * 512] :=
  (by decide +kernel : ∀ t : Fin grid0.N, _)

/-- A window over a whole array reads the array. -/
theorem read_angles (t : Fin cfg0.N) (x : FVec Ideal S1x2048 .f32) : ((cfg0.win 0).blk t).view.read (Elt Ideal) x = x := by
  funext y
  blk_point [idx t]

/-- So does the window over the samples, -/
theorem read_samples (t : Fin cfg0.N) (x : FVec Ideal S128x2048 .f32) : ((cfg0.win 1).blk t).view.read (Elt Ideal) x = x := by
  funext y
  blk_point [idx t]

/-- and the one over the uniform numbers. -/
theorem read_uniform (t : Fin cfg0.N) (x : FVec Ideal S512x2048 .f32) : ((cfg0.win 2).blk t).view.read (Elt Ideal) x = x := by
  funext y
  blk_point [idx t]

/-- The angles as a row. -/
theorem row_angles : (V m c main_v185 : FVec Ideal S1x2048 .f32) = fun i => angles m c (ix1 (i 1)) := by
  refine (angles_row _).trans ?_
  funext i
  generalize hA : angles m c = A
  pointwise
  exact congrFun hA _

/-- The angles' block at a point is the row of angles, -/
theorem angles_block (t : Fin cfg0.N) : (iblk m c 0 t : FVec Ideal S1x2048 .f32) = fun i => angles m c (ix1 (i 1)) :=
  (read_angles t (V m c main_v185)).trans (row_angles m c)

/-- the samples' block the samples, -/
theorem samples_block (t : Fin cfg0.N) : (iblk m c 1 t : FVec Ideal S128x2048 .f32) = samples m c :=
  (read_samples t (V m c main_arg0)).trans (V_main_arg0 m c)

/-- the uniform numbers' block those numbers, -/
theorem uniform_block (t : Fin cfg0.N) : (iblk m c 2 t : FVec Ideal S512x2048 .f32) = uniform m c :=
  read_uniform t (V m c main_v184)

/-- and the matrix's block a column block of the matrix. -/
theorem form_block (t : Fin cfg0.N) (l : Fin 2048) (k : Fin 512) (h : t.val * 512 + k.val < 2048) :
    (iblk m c 3 t : FVec Ideal S2048x512 .f32) (ix2 l k) = form m c (ix2 l ⟨t.val * 512 + k.val, h⟩) := by
  unfold form
  blk_point [iblk, V_main_arg2, idx t]

/-- What the first point writes to the scratch buffer, -/
theorem scratch_first (t : Fin cfg0.N) :
    (k0_pay2 (F := Ideal) (iblk m c 0 t) (iblk m c 1 t) (iblk m c 2 t) : FVec Ideal S512x2048 .f32) = turned m c := by
  funext i
  refine (pay2_at _ _ _ (angles m c) (angles_block m c t) i).trans ?_
  rw [samples_block, uniform_block]
  rfl

/-- The scratch buffer holds the flipped samples after every point. -/
theorem scratch : ∀ (n : ℕ) (h : n < cfg0.N), ((outsAt0 m c n h).2 : FVec Ideal S512x2048 .f32) = turned m c
  | 0, h => by
    rw [outsAt0_A m c ⟨0, h⟩ rfl (by simp)]
    frame_out
    exact scratch_first m c _
  | n + 1, h => by
    have ih := scratch n (Nat.lt_of_succ_lt h)
    have hN : cfg0.N = 4 := N_0
    have h0 : ¬(⟨n + 1, h⟩ : Fin cfg0.N).val % 4 = 0 := by dsimp only; omega
    by_cases h1 : (⟨n + 1, h⟩ : Fin cfg0.N).val % 4 = 3
    · rw [outsAt0_C m c ⟨n + 1, h⟩ h0 h1]
      exact ih
    · rw [outsAt0_B m c ⟨n + 1, h⟩ h0 h1]
      exact ih

/-- The column block the body reads back at a point. -/
theorem read_column (t : Fin cfg0.N) (f : FVec Ideal S512x2048 .bf16) (b k : Fin 512) (h : t.val * 512 + k.val < 2048) :
    View.ld (Val := Elt Ideal) (e' := .bf16) f
      (Rect.unit (s := S512x2048) (k0_off1 (grid0.coords t)) S512x512.size (k0_off1_inb (grid0.coords t))) (ix2 b k) =
      f (ix2 b ⟨t.val * 512 + k.val, h⟩) := by
  refine congrArg f (funext fun a => Fin.ext ?_)
  refine (ValueKit.rect_emb_unit_val _ _ _ _ a).trans ?_
  refine (congrArg (· + _) (congrFun (column t) a)).trans ?_
  match a with
  | ⟨0, _⟩ => exact Nat.zero_add _
  | ⟨1, _⟩ => rfl

/-- What the body adds at a point is that point's part. -/
theorem added (t : Fin cfg0.N) (ht : t.val < 4) (f : FVec Ideal S512x2048 .bf16) (o : FVec Ideal S1x1 .f32) (i : S1x1.Idx) :
    k0_pay4 (F := Ideal) f (iblk m c 3 t)
      (View.ld f (Rect.unit (s := S512x2048) (k0_off1 (grid0.coords t)) S512x512.size (k0_off1_inb (grid0.coords t)))) o i =
      o i + part f (form m c) ⟨t.val, ht⟩ := by
  refine (pay4_at f _ _ o i).trans ?_
  unfold part
  refine congrArg (o i + ·) (Fin.sum_fin_congr fun b => Fin.sum_fin_congr fun k => ?_)
  exact congrArg₂ (· * ·) (read_column t f b k (by omega))
    (Fin.sum_fin_congr fun l => congrArg (f (ix2 b l) * ·) (form_block m c t l k (by omega)))

/-- The sum after a point before the last. -/
theorem summed (i : S1x1.Idx) : ∀ (n : ℕ) (h : n < cfg0.N) (hn : n < 3),
    ((outsAt0 m c n h).1 : FVec Ideal S1x1 .f32) i = ∑ s : Fin (n + 1), part (turned m c) (form m c) ⟨s.val, by omega⟩
  | 0, h, hn => by
    rw [outsAt0_A m c ⟨0, h⟩ rfl (by simp)]
    frame_out
    rw [scratch_first m c]
    refine (added m c ⟨0, h⟩ (by simp) _ _ i).trans ?_
    rw [pay3_at, zero_add]
    simp
  | n + 1, h, hn => by
    have ih := summed i n (Nat.lt_of_succ_lt h) (by omega)
    have h0 : ¬(⟨n + 1, h⟩ : Fin cfg0.N).val % 4 = 0 := by dsimp only; omega
    have h1 : ¬(⟨n + 1, h⟩ : Fin cfg0.N).val % 4 = 3 := by dsimp only; omega
    have hs := scratch m c n (Nat.lt_of_succ_lt h)
    rw [outsAt0_B m c ⟨n + 1, h⟩ h0 h1]
    frame_out
    simp only [Nat.add_sub_cancel]
    rw [read_unread_whole, hs]
    refine (added m c ⟨n + 1, h⟩ (by dsimp only; omega) _ _ i).trans ?_
    rw [ih, Fin.sum_univ_castSucc (n := n + 1)]
    rfl

/-- What the output window holds after the last point. -/
theorem finished (i : S1x1.Idx) (j : Cert.ReferenceIdeal.S_.Idx) (n : ℕ) (h : n < cfg0.N) (hn : n = 3) :
    ((outsAt0 m c n h).1 : FVec Ideal S1x1 .f32) i =
      Ideal.div (∑ s : Fin 4, part (turned m c) (form m c) s) (Ideal.ofBits .f32 0x44000000#32) +
        penalty (F := Ideal) (angles m c) j := by
  obtain ⟨n, rfl⟩ : ∃ k, n = k + 1 := ⟨n - 1, by omega⟩
  have hsum := summed m c i n (Nat.lt_of_succ_lt h) (by omega)
  have h0 : ¬(⟨n + 1, h⟩ : Fin cfg0.N).val % 4 = 0 := by dsimp only; omega
  have h1 : (⟨n + 1, h⟩ : Fin cfg0.N).val % 4 = 3 := by dsimp only; omega
  have hs := scratch m c n (Nat.lt_of_succ_lt h)
  rw [outsAt0_C m c ⟨n + 1, h⟩ h0 h1]
  frame_out
  simp only [Nat.add_sub_cancel]
  rw [read_unread_whole, hs]
  refine (pay5_at _ _ (angles m c) (angles_block m c _) i j).trans ?_
  refine congrArg (fun x => Ideal.div x _ + _) ?_
  refine (added m c ⟨n + 1, h⟩ (by dsimp only; omega) _ _ i).trans ?_
  rw [hsum]
  obtain rfl : n = 2 := by omega
  rw [Fin.sum_univ_castSucc (n := 3)]
  rfl

/-- So the result's array ends holding it. -/
theorem final (i : S1x1.Idx) (j : Cert.ReferenceIdeal.S_.Idx) :
    (((dats m 0 c).arrAt 4 cfg0.N : FVec Ideal S1x1 .f32) i : EReal) =
      Ideal.div (∑ s : Fin 4, part (turned m c) (form m c) s) (Ideal.ofBits .f32 0x44000000#32) +
        penalty (F := Ideal) (angles m c) j := by
  refine congrFun ((dats m 0 c).arrAt_eq_of_after_last 4 t0_3 (by decide +kernel)
    (fun _ : S1x1.Idx => (Ideal.div (∑ s : Fin 4, part (turned m c) (form m c) s) (Ideal.ofBits .f32 0x44000000#32) +
        penalty (F := Ideal) (angles m c) j : EReal)) fun y => ?_) i
  blk_simp
  rw [after0_4]
  exact finished m c _ j _ _ rfl

end Cert.KernelIdeal.Gen
-- ==== Proof.ReferenceUniform.lean ====
module

public import proofs.«01_k».proof.Proof.ReferenceRun
public import proofs.«01_k».proof.Proof.Words
public import Idealize.ShloMosaic.Lib.Pointwise

@[expose] public section

set_option maxRecDepth 100000

noncomputable section

/-! The uniform numbers that the reference draws, at an index. -/

namespace Cert.ReferenceIdeal

open Idealize.ShloMosaic Idealize.ShloMosaic.TcCoe Idealize.ShloMosaic.Tactic Idealize.ShloMosaic.StableHlo
open Cert.Words Facts₀

variable [Facts] {F : FTy → Type} [FloatOps F]

/-- Two one-element arrays, one after the other. -/
def pair (a b : IVec S1 32) : IVec S2 32 :=
  concatenate S2 0 [⟨S1, a⟩, ⟨S1, b⟩] concatenates_S1_S1_S2_d0

theorem pair_eq (a b : IVec S1 32) (h) : concatenate S2 0 [⟨S1, a⟩, ⟨S1, b⟩] h = pair a b := rfl

/-- A one-element array has one index. -/
theorem one_idx (i j : S1.Idx) : i = j := by
  funext k
  obtain rfl : k = 0 := Subsingleton.elim _ _
  exact (Subsingleton.elim (α := Fin 1) (i 0) (j 0))

/-- The first of the two is the first array, -/
theorem pair_first (a b : IVec S1 32) (h) : extractStridedSlice S1 ![0] (pair a b) h = a := by
  funext i
  unfold pair extractStridedSlice
  rw [concatenate_pair_apply, dif_pos (by simp [one_idx i (fun k => ⟨0, by revert k; decide⟩)])]
  exact congrArg a (one_idx _ _)

/-- and the second the second. -/
theorem pair_second (a b : IVec S1 32) (h) : extractStridedSlice S1 ![1] (pair a b) h = b := by
  funext i
  unfold pair extractStridedSlice
  rw [concatenate_pair_apply, dif_neg (by simp)]
  exact congrArg b (one_idx _ _)

theorem seed_high : IntOp.shrui .host 1#32 32#32 = 0#32 := by decide +kernel
theorem seed_low : IntOp.andi 1#32 4294967295#32 = 1#32 := by decide +kernel
theorem number_high : IntOp.shrui .host 123#32 32#32 = 0#32 := by decide +kernel
theorem number_low : IntOp.andi 123#32 4294967295#32 = 123#32 := by decide +kernel

/-- The 64-bit counter of an entry: its place, row after row. -/
def place (i : S512x2048.Idx) : BitVec 64 :=
  IntOp.addi (IntOp.muli 2048#64 (BitVec.ofNat 64 (i 0).val)) (IntOp.muli 1#64 (BitVec.ofNat 64 (i 1).val))

set_option maxHeartbeats 40000000 in
/-- An entry of the array: the pattern that the generator gives for the two halves of its counter, less one, scaled to
    the interval from zero to one and cut off below at zero. -/
theorem uniform_read (d : Dev nD) (V : Valuation τ sig (Elt F)) :
    after (refOps (F := F) d) V (Proc.devRef .tc main_v13) = fun i =>
      let k := threefry 0#32 1#32 0#32 123#32
      let r := threefry k.1 k.2 ((IntOp.shrui .host (place i) 32#64).setWidth 32) ((place i).setWidth 32)
      let zero : F .f32 := FloatOps.ofBits .f32 0x00000000#32
      let one : F .f32 := FloatOps.ofBits .f32 0x3F800000#32
      FloatOps.maximumf zero (FloatOps.addf (FloatOps.mulf
        (FloatOps.subf (FloatOps.ofBits .f32 (IntOp.ori (IntOp.shrui .host (IntOp.xori r.1 r.2) 9#32) 1065353216#32) : F .f32) one)
        (FloatOps.subf one zero)) zero) := by
  after_reads_simp [pair_eq]
  funext i
  simp only [TRef.toBuf, TRef.ofBuf, cast_cast, cast_eq, pair_first, pair_second, shapeCast, broadcastInDim, constantI, id, Host.shrui, andi,
    seed_high, seed_low, number_high, number_low, addi, muli, xori, ori, Host.shli, iotaInDim, trunci, constant, subf, mulf, addf, maximumf,
    bitcastToFloat, place, threefry, rounds, inject, groupA, groupB, mix, rot, key2]

end Cert.ReferenceIdeal
-- ==== Proof.Uniform.lean ====
module

public import proofs.«01_k».proof.Proof.KernelUniform
public import proofs.«01_k».proof.Proof.ReferenceUniform
public import Idealize.ShloMosaic.Lib.Pointwise

@[expose] public section

set_option maxRecDepth 16384

noncomputable section

/-! The reference's uniform numbers and the kernel's are the same, over the extended reals. -/

namespace Cert.Energy

open Idealize.ShloMosaic Idealize.ShloMosaic.TcCoe Idealize.ShloMosaic.Tactic Idealize.ShloMosaic.StableHlo
open Cert.Words

/-- The sign bit of such a word is clear, -/
theorem sign_pattern (w : BitVec 32) : (IntOp.ori (IntOp.shrui .host w 9#32) 1065353216#32).extractLsb' 31 1 = 0#1 := by
  simp only [IntOp.ori, IntOp.shrui]
  ext i hi
  obtain rfl : i = 0 := by omega
  simp

/-- and its exponent is that of one. -/
theorem exponent_pattern (w : BitVec 32) : (IntOp.ori (IntOp.shrui .host w 9#32) 1065353216#32).extractLsb' 23 8 = 127#8 := by
  simp only [IntOp.ori, IntOp.shrui]
  ext i hi
  interval_cases i <;> simp

/-- A word whose top bits are those of one is a number from one on. -/
theorem one_le_pattern (w : BitVec 32) :
    ∃ r : ℝ, 0 ≤ r ∧ Ideal.ofBits .f32 (IntOp.ori (IntOp.shrui .host w 9#32) 1065353216#32) = ((1 + r : ℝ) : EReal) := by
  have hs := sign_pattern w
  have he := exponent_pattern w
  generalize IntOp.ori (IntOp.shrui .host w 9#32) 1065353216#32 = v at *
  refine ⟨((v.extractLsb' 0 23).toNat : ℝ) * (2 : ℝ) ^ (-23 : ℤ), by positivity, ?_⟩
  unfold Ideal.ofBits Ideal.ieee
  simp only [hs, he]
  norm_num [-EReal.coe_add, -EReal.coe_mul]
  ring

/-- A number from one on, one taken away, is its own maximum with zero, and unchanged by a factor one and a term zero. -/
theorem clip_pattern (w : BitVec 32) :
    FloatOps.maximumf (FloatOps.ofBits (F := Ideal) .f32 0x00000000#32) (FloatOps.addf (FloatOps.mulf (FloatOps.subf (FloatOps.ofBits .f32
      (IntOp.ori (IntOp.shrui .host w 9#32) 1065353216#32)) (FloatOps.ofBits .f32 0x3F800000#32))
      (FloatOps.subf (FloatOps.ofBits .f32 0x3F800000#32) (FloatOps.ofBits .f32 0x00000000#32))) (FloatOps.ofBits .f32 0x00000000#32)) =
    FloatOps.subf (FloatOps.ofBits .f32 (IntOp.ori (IntOp.shrui .host w 9#32) 1065353216#32)) (FloatOps.ofBits .f32 0x3F800000#32) := by
  obtain ⟨r, hr, h⟩ := one_le_pattern w
  have h' : FloatOps.ofBits (F := Ideal) .f32 (IntOp.ori (IntOp.shrui .host w 9#32) 1065353216#32) = ((1 + r : ℝ) : EReal) := h
  rw [h']
  have e : (1 : EReal) + r - 1 = r := by
    rw [← EReal.coe_one, ← EReal.coe_add, ← EReal.coe_sub, add_sub_cancel_left]
  simp [e, hr]

open Cert.ReferenceIdeal (place)

/-- The upper half of a place's count is zero, -/
theorem place_upper (i : Cert.ReferenceIdeal.S512x2048.Idx) : (IntOp.shrui .host (place i) 32#64).setWidth 32 = 0#32 := by
  have h0 : (i 0).val < 512 := (i 0).isLt
  have h1 : (i 1).val < 2048 := (i 1).isLt
  apply BitVec.eq_of_toNat_eq
  simp [place, IntOp.shrui, IntOp.addi, IntOp.muli]
  omega

/-- and its lower half the count. -/
theorem place_lower (i : Cert.ReferenceIdeal.S512x2048.Idx) :
    (place i).setWidth 32 = BitVec.ofNat 32 ((i 0).val * 2048 + (i 1).val) := by
  have h0 : (i 0).val < 512 := (i 0).isLt
  have h1 : (i 1).val < 2048 := (i 1).isLt
  apply BitVec.eq_of_toNat_eq
  simp [place, IntOp.shrui, IntOp.addi, IntOp.muli]
  omega

/-- The two programs' uniform numbers. -/
theorem uniform_eq [Cert.ReferenceIdeal.Facts] (d : Dev Cert.ReferenceIdeal.nD)
    (V : Valuation Cert.ReferenceIdeal.τ Cert.ReferenceIdeal.sig (Elt Ideal))
    (V' : Valuation Cert.KernelIdeal.τ Cert.KernelIdeal.sig (Elt Ideal)) :
    (after (Cert.ReferenceIdeal.refOps (F := Ideal) d) V (Proc.devRef .tc Cert.ReferenceIdeal.main_v13) :
        FVec Ideal Cert.ReferenceIdeal.S512x2048 .f32) =
      after Cert.KernelIdeal.Gen.hostOps0 V' (Proc.devRef .tc Cert.KernelIdeal.main_v184) := by
  rw [Cert.ReferenceIdeal.uniform_read, Cert.KernelIdeal.Gen.uniform_array, Cert.KernelIdeal.Gen.uniform_row]
  funext i
  simp only [threefry_key, place_upper, place_lower]
  refine (clip_pattern _).trans ?_
  pointwise
  rfl

end Cert.Energy
-- ==== Proof.Value.lean ====
module

public import proofs.«01_k».proof.Defs
public import proofs.«01_k».proof.Proof.Accumulate
public import proofs.«01_k».proof.Proof.Uniform

@[expose] public section

set_option maxRecDepth 16384

noncomputable section

/-! The kernel and the reference compute the same result over the extended reals. -/

namespace Cert.KernelIdeal.Gen

open Idealize.ShloMosaic Idealize.ShloMosaic.TcCoe Idealize.ShloMosaic.Tactic Idealize.ShloMosaic.StableHlo
open Idealize.SL.Sem
open Cert.ReferenceIdeal (result)
open Cert.Energy

/-- The last host operation reads the result's array as a row of one. -/
theorem tail_read {F : FTy → Type} [FloatOps F] (W : Valuation τ sig (Elt F)) :
    after (hostOps1 (F := F)) W (Proc.devRef .tc main_v187) =
      shapeCast S1 (W (Proc.devRef .tc main_v186)) shapeCasts_S1x1_S1 := by
  after_reads_simp
  rfl

variable [Cert.ReferenceIdeal.Facts]
variable (m : (ℓ : Loc nD τ sig) → Buf (Elt Ideal) ℓ) (c : Dev nD)

/-- What the kernel's program ends with in its result. -/
theorem tail :
    Pipeline.afterTail₀ cfgs (dats m) 0 (V0 m) [hostOps1] c main_v187 =
      shapeCast S1 ((dats m 0 c).arrAt 4 cfg0.N) shapeCasts_S1x1_S1 := by
  unfold Pipeline.afterTail₀
  rw [List.flatten_cons, List.flatten_nil, List.append_nil, tail_read]
  exact congrArg (fun x => shapeCast S1 x shapeCasts_S1x1_S1)
    (Pipeline.withArrays_arr spec0 launch0.win.arr_inj c (V0 m c) (fun w => (dats m 0 c).arrAt w cfg0.N) 4)

/-- It is the reference's result over the kernel's uniform numbers and the arguments. -/
theorem tail_result :
    (Pipeline.afterTail₀ cfgs (dats m) 0 (V0 m) [hostOps1] c main_v187 : FVec Ideal S1 .f32) =
      result (uniform m c) (samples m c) (angles m c) (form m c) := by
  refine (tail m c).trans ?_
  funext i
  refine Eq.trans ?_ (result_at _ _ _ _ i (fun a => a.elim0)).symm
  have h := fun k => final m c k (fun a => a.elim0)
  generalize (dats m 0 c).arrAt 4 cfg0.N = x at *
  exact h _

/-- The uniform numbers are what the first host operations compute. -/
theorem uniform_host : uniform m c = after hostOps0 (fun b => m (c, b)) (Proc.devRef .tc main_v184) := by
  unfold uniform V V0
  rw [List.flatten_cons, List.flatten_nil, List.append_nil]

end Cert.KernelIdeal.Gen

namespace Cert.Energy

open Idealize.ShloMosaic Idealize.ShloMosaic.TcCoe Idealize.ShloMosaic.Tactic Idealize.ShloMosaic.StableHlo
open Idealize.SL.Sem

variable [Cert.ReferenceIdeal.Facts]

/-- The reference's result is its own over the kernel's uniform numbers, from memories that agree on the arguments. -/
theorem reference_result (c : Dev Cert.KernelIdeal.nD)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) =
      m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) =
      m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) =
      m ((c.tc : Thread Cert.KernelIdeal.nD Cert.KernelIdeal.τ).loc Cert.KernelIdeal.main_arg2)) :
    (after (Cert.ReferenceIdeal.refOps (F := Ideal) c) (launchContents m' c) (Proc.devRef .tc Cert.ReferenceIdeal.main_v44) :
        FVec Ideal Cert.ReferenceIdeal.S1 .f32) =
      Cert.ReferenceIdeal.result (Cert.KernelIdeal.Gen.uniform m c) (Cert.KernelIdeal.Gen.samples m c)
        (Cert.KernelIdeal.Gen.angles m c) (Cert.KernelIdeal.Gen.form m c) := by
  have e0 : launchContents m' c (Proc.devRef .tc Cert.ReferenceIdeal.main_arg0) = Cert.KernelIdeal.Gen.samples m c := h0
  have e1 : launchContents m' c (Proc.devRef .tc Cert.ReferenceIdeal.main_arg1) = Cert.KernelIdeal.Gen.angles m c := h1
  have e2 : launchContents m' c (Proc.devRef .tc Cert.ReferenceIdeal.main_arg2) = Cert.KernelIdeal.Gen.form m c := h2
  rw [Cert.ReferenceIdeal.result_read, e0, e1, e2, uniform_eq c _ (fun b => m (c, b)), ← Cert.KernelIdeal.Gen.uniform_host]

/-- The value claim. -/
theorem algebraic : Cert.algebraic_KernelIdeal_ReferenceIdeal := by
  intro m g m' g' _ agree
  refine ⟨fun c => Cert.ReferenceIdeal.result (Cert.KernelIdeal.Gen.uniform m c) (Cert.KernelIdeal.Gen.samples m c)
    (Cert.KernelIdeal.Gen.angles m c) (Cert.KernelIdeal.Gen.form m c), ?_, ?_⟩
  · run_from Cert.KernelIdeal.Gen.unchanged m g & Cert.KernelIdeal.Gen.run_main m g
    exact Cert.KernelIdeal.Gen.tail_result m c
  · refine θ_run_mono (Cert.ReferenceIdeal.run_main m' g') fun r h c => ?_
    obtain ⟨h0, h1, h2⟩ := agree c
    refine ⟨?_, ?_, ?_, ?_⟩
    · exact (h c _).trans (reference_result c m m' h0 h1 h2)
    · exact (h c _).trans (Cert.ReferenceIdeal.keeps_arg0 c _)
    · exact (h c _).trans (Cert.ReferenceIdeal.keeps_arg1 c _)
    · exact (h c _).trans (Cert.ReferenceIdeal.keeps_arg2 c _)

end Cert.Energy
-- ==== Proof.lean ====
/- The certificate: the frames of the kernel, of its idealization and of the reference, the idealization itself, and the equality
   of the idealized kernel's result with the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.ReferenceRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.frame m ρ,
    trivial,
    Cert.Energy.algebraic⟩

end Cert.Proof

end
